-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_cosets [hPre_cosets : Cert.Pre_cosets.Facts] (m : (ℓ : Loc Cert.KernelIdeal.nD Cert.KernelIdeal.τ Cert.KernelIdeal.sig) → Buf (Elt Ideal) ℓ) : Prop :=
  ∀ c : Dev Cert.KernelIdeal.nD,
    (Cert.Pre_cosets.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cosets [hPre_cosets : Cert.Pre_cosets.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cosets.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_cosets [hKernelIdeal : Cert.KernelIdeal.Facts] [hPre_cosets : Cert.Pre_cosets.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cosets m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_cosets [hReferenceIdeal : Cert.ReferenceIdeal.Facts] [hPre_cosets : Cert.Pre_cosets.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cosets m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_cosets [hKernelIdeal : Cert.KernelIdeal.Facts] [hReferenceIdeal : Cert.ReferenceIdeal.Facts] [hPre_cosets : Cert.Pre_cosets.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cosets m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts) (hPre_cosets : Cert.Pre_cosets.Facts),
    quiescent_Kernel (hKernel := hKernel) (hPre_in_range := hPre_in_range)
    ∧ quiescent_KernelIdeal (hKernelIdeal := hKernelIdeal) (hPre_in_range := hPre_in_range)
    ∧ quiescent_KernelIdeal_pre_cosets (hKernelIdeal := hKernelIdeal) (hPre_cosets := hPre_cosets)
    ∧ quiescent_ReferenceIdeal (hReferenceIdeal := hReferenceIdeal)
    ∧ quiescent_ReferenceIdeal_pre_cosets (hReferenceIdeal := hReferenceIdeal) (hPre_cosets := hPre_cosets)
    ∧ preserves_Kernel_KernelIdeal
    ∧ algebraic_KernelIdeal_ReferenceIdeal_pre_cosets (hKernelIdeal := hKernelIdeal) (hReferenceIdeal := hReferenceIdeal) (hPre_cosets := hPre_cosets)
-- ==== Pre_cosets.lean ====
abbrev S16x128x196x256 : Shape := ⟨4, ![16, 128, 196, 256]⟩
abbrev S16x16 : Shape := ⟨2, ![16, 16]⟩
abbrev S_ : Shape := ⟨0, ![]⟩

class Facts : Prop where
  bcast_S_S16x16 : S_.BroadcastsInDim S16x16 (![] : Fin 0 → Fin S16x16.rank)
  reducesTo_S16x16_S_d0_1 : S16x16.ReducesTo [0, 1] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S16x16 32) (arg1 : IVec S_ 32) : IVec S16x16 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S16x16 32 := broadcastInDim S16x16 ![] bcast_S_S16x16 v2
  let v4 : IVec S16x16 32 := Host.remsi arg0 v3
  let c_1 : IVec S_ 32 := constantI S_ 32 0#32
  let v5 : IVec S16x16 32 := broadcastInDim S16x16 ![] bcast_S_S16x16 c_1
  let v6 : IVec S16x16 1 := cmpi .ne v4 v5
  let c_2 : IVec S_ 32 := constantI S_ 32 0#32
  let v7 : IVec S16x16 32 := broadcastInDim S16x16 ![] bcast_S_S16x16 c_2
  let v8 : IVec S16x16 1 := cmpi .slt v4 v7
  let c_3 : IVec S_ 32 := constantI S_ 32 0#32
  let v9 : IVec S_ 1 := cmpi .slt v2 c_3
  let v10 : IVec S16x16 1 := broadcastInDim S16x16 ![] bcast_S_S16x16 v9
  let v11 : IVec S16x16 1 := cmpi .ne v8 v10
  let v12 : IVec S16x16 1 := andi v11 v6
  let v13 : IVec S16x16 32 := broadcastInDim S16x16 ![] bcast_S_S16x16 v2
  let v14 : IVec S16x16 32 := addi v4 v13
  let v15 : IVec S16x16 32 := select v12 v14 v4
  v15

def fn {F : FTy → Type} [FloatOps F] (main_arg0 : FVec F S16x128x196x256 .f32) (main_arg1 : IVec S16x16 32) : IVec S_ 1 :=
  let main_v0 : IVec S16x16 32 := iotaInDim S16x16 32 0
  let main_v1 : IVec S16x16 32 := iotaInDim S16x16 32 1
  let main_c : IVec S_ 32 := constantI S_ 32 16#32
  let main_v2 : IVec S16x16 32 := broadcastInDim S16x16 ![] bcast_S_S16x16 main_c
  let main_v3 : IVec S16x16 32 := muli main_v0 main_v2
  let main_v4 : IVec S16x16 32 := addi main_v0 main_v1
  let main_c_0 : IVec S_ 32 := constantI S_ 32 16#32
  let main_v5 : IVec S16x16 32 := fn_remainder (F := F) main_v4 main_c_0
  let main_v6 : IVec S16x16 32 := addi main_v3 main_v5
  let main_v7 : IVec S16x16 1 := cmpi .eq main_arg1 main_v6
  let main_c_1 : IVec S_ 1 := constantI S_ 1 1#1
  let main_v8 : IVec S_ 1 := (fun x v => Host.reduce IntOp.andi x v reducesTo_S16x16_S_d0_1 h_S_) main_v7 main_c_1
  main_v8
-- ==== Pre_in_range.lean ====
abbrev S16x128x196x256 : Shape := ⟨4, ![16, 128, 196, 256]⟩
abbrev S16x16 : Shape := ⟨2, ![16, 16]⟩
abbrev S_ : Shape := ⟨0, ![]⟩

class Facts : Prop where
  bcast_S_S16x16 : S_.BroadcastsInDim S16x16 (![] : Fin 0 → Fin S16x16.rank)
  reducesTo_S16x16_S_d0_1 : S16x16.ReducesTo [0, 1] S_
  h_S_ : 0 < S_.numel

variable [Facts]

def fn {F : FTy → Type} [FloatOps F] (main_arg0 : FVec F S16x128x196x256 .f32) (main_arg1 : IVec S16x16 32) : IVec S_ 1 :=
  let main_c : IVec S_ 32 := constantI S_ 32 0#32
  let main_v0 : IVec S16x16 32 := broadcastInDim S16x16 ![] bcast_S_S16x16 main_c
  let main_v1 : IVec S16x16 1 := cmpi .sge main_arg1 main_v0
  let main_c_0 : IVec S_ 32 := constantI S_ 32 256#32
  let main_v2 : IVec S16x16 32 := broadcastInDim S16x16 ![] bcast_S_S16x16 main_c_0
  let main_v3 : IVec S16x16 1 := cmpi .slt main_arg1 main_v2
  let main_v4 : IVec S16x16 1 := andi main_v1 main_v3
  let main_c_1 : IVec S_ 1 := constantI S_ 1 1#1
  let main_v5 : IVec S_ 1 := (fun x v => Host.reduce IntOp.andi x v reducesTo_S16x16_S_d0_1 h_S_) main_v4 main_c_1
  main_v5
-- ==== Kernel.lean ====
abbrev S16x128x196x256 : Shape := ⟨4, ![16, 128, 196, 256]⟩
abbrev S16x16 : Shape := ⟨2, ![16, 16]⟩
abbrev S16x196x128x256 : Shape := ⟨4, ![16, 196, 128, 256]⟩
abbrev S3136x128x256 : Shape := ⟨3, ![3136, 128, 256]⟩
abbrev S2240x16x128 : Shape := ⟨3, ![2240, 16, 128]⟩
abbrev S2x128x256 : Shape := ⟨3, ![2, 128, 256]⟩
abbrev S16x128 : Shape := ⟨2, ![16, 128]⟩
abbrev S_ : Shape := ⟨0, ![]⟩
abbrev S16 : Shape := ⟨1, ![16]⟩
abbrev S1x16 : Shape := ⟨2, ![1, 16]⟩
abbrev S1x64x256 : Shape := ⟨3, ![1, 64, 256]⟩
abbrev S64x256 : Shape := ⟨2, ![64, 256]⟩
abbrev S1x16x128 : Shape := ⟨3, ![1, 16, 128]⟩
abbrev S1x128x256 : Shape := ⟨3, ![1, 128, 256]⟩
abbrev S128x256 : Shape := ⟨2, ![128, 256]⟩
abbrev S896x16x128 : Shape := ⟨3, ![896, 16, 128]⟩
abbrev S32x128x256 : Shape := ⟨3, ![32, 128, 256]⟩
abbrev S32x16x128 : Shape := ⟨3, ![32, 16, 128]⟩
abbrev S32x128x128 : Shape := ⟨3, ![32, 128, 128]⟩
abbrev S32x128x120 : Shape := ⟨3, ![32, 128, 120]⟩
abbrev S32x128x8 : Shape := ⟨3, ![32, 128, 8]⟩
abbrev S32x128x64 : Shape := ⟨3, ![32, 128, 64]⟩
abbrev S32x128x60 : Shape := ⟨3, ![32, 128, 60]⟩
abbrev S32x128x4 : Shape := ⟨3, ![32, 128, 4]⟩
abbrev S32x128x12 : Shape := ⟨3, ![32, 128, 12]⟩
abbrev S32x128x52 : Shape := ⟨3, ![32, 128, 52]⟩
abbrev S32x128x32 : Shape := ⟨3, ![32, 128, 32]⟩
abbrev S32x128x30 : Shape := ⟨3, ![32, 128, 30]⟩
abbrev S32x128x2 : Shape := ⟨3, ![32, 128, 2]⟩
abbrev S32x128x14 : Shape := ⟨3, ![32, 128, 14]⟩
abbrev S32x128x18 : Shape := ⟨3, ![32, 128, 18]⟩
abbrev S32x128x16 : Shape := ⟨3, ![32, 128, 16]⟩
abbrev S32x128x15 : Shape := ⟨3, ![32, 128, 15]⟩
abbrev S32x128x1 : Shape := ⟨3, ![32, 128, 1]⟩
abbrev S3136x16x128 : Shape := ⟨3, ![3136, 16, 128]⟩
abbrev S16x196x16x128 : Shape := ⟨4, ![16, 196, 16, 128]⟩
abbrev S16x128x196x16 : Shape := ⟨4, ![16, 128, 196, 16]⟩

abbrev nBuf : Table → Nat
  | .hbm => 9
  | .local .tc .vmem => 4
  | .local .scVector .vmem => 4
  | _ => 0

abbrev bufTy : (tb : Table) → Fin (nBuf tb) → BufTy
  | .hbm, ⟨0, _⟩ => ⟨S16x128x196x256, .f32⟩
  | .hbm, ⟨1, _⟩ => ⟨S16x16, .i32⟩
  | .hbm, ⟨2, _⟩ => ⟨S16x196x128x256, .f32⟩
  | .hbm, ⟨3, _⟩ => ⟨S3136x128x256, .f32⟩
  | .hbm, ⟨4, _⟩ => ⟨S2240x16x128, .f32⟩
  | .hbm, ⟨5, _⟩ => ⟨S896x16x128, .f32⟩
  | .hbm, ⟨6, _⟩ => ⟨S3136x16x128, .f32⟩
  | .hbm, ⟨7, _⟩ => ⟨S16x196x16x128, .f32⟩
  | .hbm, ⟨8, _⟩ => ⟨S16x128x196x16, .f32⟩
  | .local .tc .vmem, ⟨0, _⟩ => ⟨S32x128x256, .f32⟩
  | .local .tc .vmem, ⟨1, _⟩ => ⟨S32x128x256, .f32⟩
  | .local .tc .vmem, ⟨2, _⟩ => ⟨S32x16x128, .f32⟩
  | .local .tc .vmem, ⟨3, _⟩ => ⟨S32x16x128, .f32⟩
  | .local .scVector .vmem, ⟨0, _⟩ => ⟨S2x128x256, .f32⟩
  | .local .scVector .vmem, ⟨1, _⟩ => ⟨S16x128, .f32⟩
  | .local .scVector .vmem, ⟨2, _⟩ => ⟨S16x128, .f32⟩
  | .local .scVector .vmem, ⟨3, _⟩ => ⟨S16x16, .i32⟩
  | _, _ => ⟨S16x128x196x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v1_scv : Ref sig .scVector := ⟨.hbm, 3, rfl⟩
abbrev main_arg1_scv : Ref sig .scVector := ⟨.hbm, 1, rfl⟩
abbrev main_v2_scv : Ref sig .scVector := ⟨.hbm, 4, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 7
abbrev cc1_sem0_1 : DmaSem sig := 8
abbrev cc1_sem1_0 : DmaSem sig := 9
abbrev cc1_sem1_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c0_i32_16 : BitVec 32 := 0#32
  let v36 : BitVec 32 := Scalar.addi v2 c0_i32_16
  let c0_i32_20 : BitVec 32 := 0#32
  let c0_i32_21 : BitVec 32 := 0#32
  ![v36.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c0_i32_26 : BitVec 32 := 0#32
  let v45 : BitVec 32 := Scalar.addi v2 c0_i32_26
  let c64_i32_29 : BitVec 32 := 64#32
  let c0_i32_30 : BitVec 32 := 0#32
  ![v45.toNat, 64, 0]
@[reducible] def k0_t1_loop : Scf.Loop 32 :=
  let c0_i32_36 : BitVec 32 := 0#32
  let c35_i32 : BitVec 32 := 35#32
  let v54 : BitVec 32 := Scalar.addi c0_i32_36 c35_i32
  let c1_i32_37 : BitVec 32 := 1#32
  ⟨c0_i32_36, v54, c1_i32_37⟩
def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_47 : BitVec 32 := 2#32
  let c0_i32_36 : BitVec 32 := 0#32
  let c1_i32_37 : BitVec 32 := 1#32
  let arg15 : BitVec 32 := Scf.iv c0_i32_36 c1_i32_37 k0_t1
  let v65 : BitVec 32 := Scalar.muli c2_i32_47 arg15
  let c0_i32_48 : BitVec 32 := 0#32
  let v66 : BitVec 32 := Scalar.addi v65 c0_i32_48
  let v67 : BitVec 32 := Scalar.addi v2 v66
  let c0_i32_52 : BitVec 32 := 0#32
  let c0_i32_53 : BitVec 32 := 0#32
  ![v67.toNat, 0, 0]
def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_47 : BitVec 32 := 2#32
  let c0_i32_36 : BitVec 32 := 0#32
  let c1_i32_37 : BitVec 32 := 1#32
  let arg15 : BitVec 32 := Scf.iv c0_i32_36 c1_i32_37 k0_t1
  let v65 : BitVec 32 := Scalar.muli c2_i32_47 arg15
  let c0_i32_48 : BitVec 32 := 0#32
  let v66 : BitVec 32 := Scalar.addi v65 c0_i32_48
  let v76 : BitVec 32 := Scalar.addi v2 v66
  let c64_i32_61 : BitVec 32 := 64#32
  let c0_i32_62 : BitVec 32 := 0#32
  ![v76.toNat, 64, 0]
def k0_cond1 (k0_t1 : Fin k0_t1_loop.trips) : BitVec 1 :=
  let c2_i32_47 : BitVec 32 := 2#32
  let c0_i32_36 : BitVec 32 := 0#32
  let c1_i32_37 : BitVec 32 := 1#32
  let arg15 : BitVec 32 := Scf.iv c0_i32_36 c1_i32_37 k0_t1
  let v65 : BitVec 32 := Scalar.muli c2_i32_47 arg15
  let c0_i32_48 : BitVec 32 := 0#32
  let v66 : BitVec 32 := Scalar.addi v65 c0_i32_48
  let c1_i32_67 : BitVec 32 := 1#32
  let v85 : BitVec 32 := Scalar.addi v66 c1_i32_67
  let c70_i32_68 : BitVec 32 := 70#32
  let v86 : BitVec 1 := Scalar.cmpi .slt v85 c70_i32_68
  let v87 : BitVec 32 := Scalar.extui v86
  let c0_i32_69 : BitVec 32 := 0#32
  let v88 : BitVec 1 := Scalar.cmpi .ne v87 c0_i32_69
  v88

def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_47 : BitVec 32 := 2#32
  let c0_i32_36 : BitVec 32 := 0#32
  let c1_i32_37 : BitVec 32 := 1#32
  let arg15 : BitVec 32 := Scf.iv c0_i32_36 c1_i32_37 k0_t1
  let v65 : BitVec 32 := Scalar.muli c2_i32_47 arg15
  let c0_i32_48 : BitVec 32 := 0#32
  let v66 : BitVec 32 := Scalar.addi v65 c0_i32_48
  let c1_i32_114 : BitVec 32 := 1#32
  let v131 : BitVec 32 := Scalar.addi v66 c1_i32_114
  let v132 : BitVec 32 := Scalar.addi v2 v131
  let c0_i32_118 : BitVec 32 := 0#32
  let c0_i32_119 : BitVec 32 := 0#32
  ![v132.toNat, 0, 0]
def k0_off6 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_47 : BitVec 32 := 2#32
  let c0_i32_36 : BitVec 32 := 0#32
  let c1_i32_37 : BitVec 32 := 1#32
  let arg15 : BitVec 32 := Scf.iv c0_i32_36 c1_i32_37 k0_t1
  let v65 : BitVec 32 := Scalar.muli c2_i32_47 arg15
  let c0_i32_48 : BitVec 32 := 0#32
  let v66 : BitVec 32 := Scalar.addi v65 c0_i32_48
  let c1_i32_114 : BitVec 32 := 1#32
  let v131 : BitVec 32 := Scalar.addi v66 c1_i32_114
  let v141 : BitVec 32 := Scalar.addi v2 v131
  let c64_i32_127 : BitVec 32 := 64#32
  let c0_i32_128 : BitVec 32 := 0#32
  ![v141.toNat, 64, 0]
def k0_cond2 (k0_t1 : Fin k0_t1_loop.trips) : BitVec 1 :=
  let c2_i32_47 : BitVec 32 := 2#32
  let c0_i32_36 : BitVec 32 := 0#32
  let c1_i32_37 : BitVec 32 := 1#32
  let arg15 : BitVec 32 := Scf.iv c0_i32_36 c1_i32_37 k0_t1
  let v65 : BitVec 32 := Scalar.muli c2_i32_47 arg15
  let c0_i32_48 : BitVec 32 := 0#32
  let v66 : BitVec 32 := Scalar.addi v65 c0_i32_48
  let c2_i32_70 : BitVec 32 := 2#32
  let v89 : BitVec 1 := Scalar.cmpi .sge v66 c2_i32_70
  let v90 : BitVec 32 := Scalar.extui v89
  let c0_i32_71 : BitVec 32 := 0#32
  let v91 : BitVec 1 := Scalar.cmpi .ne v90 c0_i32_71
  v91

def k0_off7 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_47 : BitVec 32 := 2#32
  let c0_i32_36 : BitVec 32 := 0#32
  let c1_i32_37 : BitVec 32 := 1#32
  let arg15 : BitVec 32 := Scf.iv c0_i32_36 c1_i32_37 k0_t1
  let v65 : BitVec 32 := Scalar.muli c2_i32_47 arg15
  let c0_i32_48 : BitVec 32 := 0#32
  let v66 : BitVec 32 := Scalar.addi v65 c0_i32_48
  let c2_i32_114 : BitVec 32 := 2#32
  let v131 : BitVec 32 := Scalar.subi v66 c2_i32_114
  let v132 : BitVec 32 := Scalar.addi v2 v131
  let c0_i32_115 : BitVec 32 := 0#32
  let c0_i32_116 : BitVec 32 := 0#32
  ![v132.toNat, 0, 0]
@[reducible] def k0_t2_loop : Scf.Loop 32 :=
  let c0_i32_73 : BitVec 32 := 0#32
  let c128_i32 : BitVec 32 := 128#32
  let v92 : BitVec 32 := Scalar.addi c0_i32_73 c128_i32
  let c1_i32_74 : BitVec 32 := 1#32
  ⟨c0_i32_73, v92, c1_i32_74⟩

def k0_chk1 (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) : Prop :=
  (∀ a x, ((![v131, v4] : Fin 2 → IVec S16 32) a x).toNat < S128x256.size a) ∧
  (∀ a x, ((![v131, v6] : Fin 2 → IVec S16 32) a x).toNat < S128x256.size a) ∧
  (∀ a x, ((![v131, v8] : Fin 2 → IVec S16 32) a x).toNat < S128x256.size a) ∧
  (∀ a x, ((![v131, v10] : Fin 2 → IVec S16 32) a x).toNat < S128x256.size a) ∧
  (∀ a x, ((![v131, v12] : Fin 2 → IVec S16 32) a x).toNat < S128x256.size a) ∧
  (∀ a x, ((![v131, v14] : Fin 2 → IVec S16 32) a x).toNat < S128x256.size a) ∧
  (∀ a x, ((![v131, v16] : Fin 2 → IVec S16 32) a x).toNat < S128x256.size a) ∧
  (∀ a x, ((![v131, v18] : Fin 2 → IVec S16 32) a x).toNat < S128x256.size a) ∧
  (∀ a x, ((![v131, v20] : Fin 2 → IVec S16 32) a x).toNat < S128x256.size a) ∧
  (∀ a x, ((![v131, v22] : Fin 2 → IVec S16 32) a x).toNat < S128x256.size a) ∧
  (∀ a x, ((![v131, v24] : Fin 2 → IVec S16 32) a x).toNat < S128x256.size a) ∧
  (∀ a x, ((![v131, v26] : Fin 2 → IVec S16 32) a x).toNat < S128x256.size a) ∧
  (∀ a x, ((![v131, v28] : Fin 2 → IVec S16 32) a x).toNat < S128x256.size a) ∧
  (∀ a x, ((![v131, v30] : Fin 2 → IVec S16 32) a x).toNat < S128x256.size a) ∧
  (∀ a x, ((![v131, v32] : Fin 2 → IVec S16 32) a x).toNat < S128x256.size a) ∧
  (∀ a x, ((![v131, v34] : Fin 2 → IVec S16 32) a x).toNat < S128x256.size a) ∧
  (∀ a x, ((![v35, v131] : Fin 2 → IVec S16 32) a x).toNat < S16x128.size a)
theorem k0_idx1_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v4] : Fin 2 → IVec S16 32) a x).toNat < S128x256.size a := fun v4 v6 v8 v10 v12 v14 v16 v18 v20 v22 v24 v26 v28 v30 v32 v34 v35 v131 k0_hw1 => k0_hw1.1
theorem k0_idx2_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v6] : Fin 2 → IVec S16 32) a x).toNat < S128x256.size a := fun v4 v6 v8 v10 v12 v14 v16 v18 v20 v22 v24 v26 v28 v30 v32 v34 v35 v131 k0_hw1 => k0_hw1.2.1
theorem k0_idx3_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v8] : Fin 2 → IVec S16 32) a x).toNat < S128x256.size a := fun v4 v6 v8 v10 v12 v14 v16 v18 v20 v22 v24 v26 v28 v30 v32 v34 v35 v131 k0_hw1 => k0_hw1.2.2.1
theorem k0_idx4_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v10] : Fin 2 → IVec S16 32) a x).toNat < S128x256.size a := fun v4 v6 v8 v10 v12 v14 v16 v18 v20 v22 v24 v26 v28 v30 v32 v34 v35 v131 k0_hw1 => k0_hw1.2.2.2.1
theorem k0_idx5_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v12] : Fin 2 → IVec S16 32) a x).toNat < S128x256.size a := fun v4 v6 v8 v10 v12 v14 v16 v18 v20 v22 v24 v26 v28 v30 v32 v34 v35 v131 k0_hw1 => k0_hw1.2.2.2.2.1
theorem k0_idx6_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v14] : Fin 2 → IVec S16 32) a x).toNat < S128x256.size a := fun v4 v6 v8 v10 v12 v14 v16 v18 v20 v22 v24 v26 v28 v30 v32 v34 v35 v131 k0_hw1 => k0_hw1.2.2.2.2.2.1
theorem k0_idx7_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v16] : Fin 2 → IVec S16 32) a x).toNat < S128x256.size a := fun v4 v6 v8 v10 v12 v14 v16 v18 v20 v22 v24 v26 v28 v30 v32 v34 v35 v131 k0_hw1 => k0_hw1.2.2.2.2.2.2.1
theorem k0_idx8_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v18] : Fin 2 → IVec S16 32) a x).toNat < S128x256.size a := fun v4 v6 v8 v10 v12 v14 v16 v18 v20 v22 v24 v26 v28 v30 v32 v34 v35 v131 k0_hw1 => k0_hw1.2.2.2.2.2.2.2.1
theorem k0_idx9_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v20] : Fin 2 → IVec S16 32) a x).toNat < S128x256.size a := fun v4 v6 v8 v10 v12 v14 v16 v18 v20 v22 v24 v26 v28 v30 v32 v34 v35 v131 k0_hw1 => k0_hw1.2.2.2.2.2.2.2.2.1
theorem k0_idx10_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v22] : Fin 2 → IVec S16 32) a x).toNat < S128x256.size a := fun v4 v6 v8 v10 v12 v14 v16 v18 v20 v22 v24 v26 v28 v30 v32 v34 v35 v131 k0_hw1 => k0_hw1.2.2.2.2.2.2.2.2.2.1
theorem k0_idx11_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v24] : Fin 2 → IVec S16 32) a x).toNat < S128x256.size a := fun v4 v6 v8 v10 v12 v14 v16 v18 v20 v22 v24 v26 v28 v30 v32 v34 v35 v131 k0_hw1 => k0_hw1.2.2.2.2.2.2.2.2.2.2.1
theorem k0_idx12_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v26] : Fin 2 → IVec S16 32) a x).toNat < S128x256.size a := fun v4 v6 v8 v10 v12 v14 v16 v18 v20 v22 v24 v26 v28 v30 v32 v34 v35 v131 k0_hw1 => k0_hw1.2.2.2.2.2.2.2.2.2.2.2.1
theorem k0_idx13_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v28] : Fin 2 → IVec S16 32) a x).toNat < S128x256.size a := fun v4 v6 v8 v10 v12 v14 v16 v18 v20 v22 v24 v26 v28 v30 v32 v34 v35 v131 k0_hw1 => k0_hw1.2.2.2.2.2.2.2.2.2.2.2.2.1
theorem k0_idx14_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v30] : Fin 2 → IVec S16 32) a x).toNat < S128x256.size a := fun v4 v6 v8 v10 v12 v14 v16 v18 v20 v22 v24 v26 v28 v30 v32 v34 v35 v131 k0_hw1 => k0_hw1.2.2.2.2.2.2.2.2.2.2.2.2.2.1
theorem k0_idx15_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v32] : Fin 2 → IVec S16 32) a x).toNat < S128x256.size a := fun v4 v6 v8 v10 v12 v14 v16 v18 v20 v22 v24 v26 v28 v30 v32 v34 v35 v131 k0_hw1 => k0_hw1.2.2.2.2.2.2.2.2.2.2.2.2.2.2.1
theorem k0_idx16_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v131, v34] : Fin 2 → IVec S16 32) a x).toNat < S128x256.size a := fun v4 v6 v8 v10 v12 v14 v16 v18 v20 v22 v24 v26 v28 v30 v32 v34 v35 v131 k0_hw1 => k0_hw1.2.2.2.2.2.2.2.2.2.2.2.2.2.2.2.1
theorem k0_idx17_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw1 : k0_chk1 v4 v6 v8 v10 v12 v14 v16 v18 v20 v22 v24 v26 v28 v30 v32 v34 v35 v131), ∀ a x, ((![v35, v131] : Fin 2 → IVec S16 32) a x).toNat < S16x128.size a := fun v4 v6 v8 v10 v12 v14 v16 v18 v20 v22 v24 v26 v28 v30 v32 v34 v35 v131 k0_hw1 => k0_hw1.2.2.2.2.2.2.2.2.2.2.2.2.2.2.2.2
def k0_off8 (i : grid0.Coords) (k0_t1 : Fin k0_t1_loop.trips) (c0_i32_48 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_47 : BitVec 32 := 2#32
  let c0_i32_36 : BitVec 32 := 0#32
  let c1_i32_37 : BitVec 32 := 1#32
  let arg15 : BitVec 32 := Scf.iv c0_i32_36 c1_i32_37 k0_t1
  let v65 : BitVec 32 := Scalar.muli c2_i32_47 arg15
  let v66 : BitVec 32 := Scalar.addi v65 c0_i32_48
  let v93 : BitVec 32 := Scalar.addi v2 v66
  let c0_i32_76 : BitVec 32 := 0#32
  let c0_i32_77 : BitVec 32 := 0#32
  ![v93.toNat, 0, 0]
def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_80 : BitVec 32 := 2#32
  let c0_i32_36 : BitVec 32 := 0#32
  let c1_i32_37 : BitVec 32 := 1#32
  let arg15 : BitVec 32 := Scf.iv c0_i32_36 c1_i32_37 k0_t1
  let v98 : BitVec 32 := Scalar.muli c2_i32_80 arg15
  let c1_i32_81 : BitVec 32 := 1#32
  let v99 : BitVec 32 := Scalar.addi v98 c1_i32_81
  let v100 : BitVec 32 := Scalar.addi v2 v99
  let c0_i32_85 : BitVec 32 := 0#32
  let c0_i32_86 : BitVec 32 := 0#32
  ![v100.toNat, 0, 0]
def k0_off10 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_80 : BitVec 32 := 2#32
  let c0_i32_36 : BitVec 32 := 0#32
  let c1_i32_37 : BitVec 32 := 1#32
  let arg15 : BitVec 32 := Scf.iv c0_i32_36 c1_i32_37 k0_t1
  let v98 : BitVec 32 := Scalar.muli c2_i32_80 arg15
  let c1_i32_81 : BitVec 32 := 1#32
  let v99 : BitVec 32 := Scalar.addi v98 c1_i32_81
  let v109 : BitVec 32 := Scalar.addi v2 v99
  let c64_i32_94 : BitVec 32 := 64#32
  let c0_i32_95 : BitVec 32 := 0#32
  ![v109.toNat, 64, 0]
def k0_cond3 (k0_t1 : Fin k0_t1_loop.trips) : BitVec 1 :=
  let c2_i32_80 : BitVec 32 := 2#32
  let c0_i32_36 : BitVec 32 := 0#32
  let c1_i32_37 : BitVec 32 := 1#32
  let arg15 : BitVec 32 := Scf.iv c0_i32_36 c1_i32_37 k0_t1
  let v98 : BitVec 32 := Scalar.muli c2_i32_80 arg15
  let c1_i32_81 : BitVec 32 := 1#32
  let v99 : BitVec 32 := Scalar.addi v98 c1_i32_81
  let c1_i32_100 : BitVec 32 := 1#32
  let v118 : BitVec 32 := Scalar.addi v99 c1_i32_100
  let c70_i32_101 : BitVec 32 := 70#32
  let v119 : BitVec 1 := Scalar.cmpi .slt v118 c70_i32_101
  let v120 : BitVec 32 := Scalar.extui v119
  let c0_i32_102 : BitVec 32 := 0#32
  let v121 : BitVec 1 := Scalar.cmpi .ne v120 c0_i32_102
  v121

def k0_off11 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_80 : BitVec 32 := 2#32
  let c0_i32_36 : BitVec 32 := 0#32
  let c1_i32_37 : BitVec 32 := 1#32
  let arg15 : BitVec 32 := Scf.iv c0_i32_36 c1_i32_37 k0_t1
  let v98 : BitVec 32 := Scalar.muli c2_i32_80 arg15
  let c1_i32_81 : BitVec 32 := 1#32
  let v99 : BitVec 32 := Scalar.addi v98 c1_i32_81
  let c1_i32_114 : BitVec 32 := 1#32
  let v131 : BitVec 32 := Scalar.addi v99 c1_i32_114
  let v132 : BitVec 32 := Scalar.addi v2 v131
  let c0_i32_118 : BitVec 32 := 0#32
  let c0_i32_119 : BitVec 32 := 0#32
  ![v132.toNat, 0, 0]
def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_80 : BitVec 32 := 2#32
  let c0_i32_36 : BitVec 32 := 0#32
  let c1_i32_37 : BitVec 32 := 1#32
  let arg15 : BitVec 32 := Scf.iv c0_i32_36 c1_i32_37 k0_t1
  let v98 : BitVec 32 := Scalar.muli c2_i32_80 arg15
  let c1_i32_81 : BitVec 32 := 1#32
  let v99 : BitVec 32 := Scalar.addi v98 c1_i32_81
  let c1_i32_114 : BitVec 32 := 1#32
  let v131 : BitVec 32 := Scalar.addi v99 c1_i32_114
  let v141 : BitVec 32 := Scalar.addi v2 v131
  let c64_i32_127 : BitVec 32 := 64#32
  let c0_i32_128 : BitVec 32 := 0#32
  ![v141.toNat, 64, 0]
def k0_cond4 (k0_t1 : Fin k0_t1_loop.trips) : BitVec 1 :=
  let c2_i32_80 : BitVec 32 := 2#32
  let c0_i32_36 : BitVec 32 := 0#32
  let c1_i32_37 : BitVec 32 := 1#32
  let arg15 : BitVec 32 := Scf.iv c0_i32_36 c1_i32_37 k0_t1
  let v98 : BitVec 32 := Scalar.muli c2_i32_80 arg15
  let c1_i32_81 : BitVec 32 := 1#32
  let v99 : BitVec 32 := Scalar.addi v98 c1_i32_81
  let c2_i32_103 : BitVec 32 := 2#32
  let v122 : BitVec 1 := Scalar.cmpi .sge v99 c2_i32_103
  let v123 : BitVec 32 := Scalar.extui v122
  let c0_i32_104 : BitVec 32 := 0#32
  let v124 : BitVec 1 := Scalar.cmpi .ne v123 c0_i32_104
  v124

def k0_off13 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let c2_i32_80 : BitVec 32 := 2#32
  let c0_i32_36 : BitVec 32 := 0#32
  let c1_i32_37 : BitVec 32 := 1#32
  let arg15 : BitVec 32 := Scf.iv c0_i32_36 c1_i32_37 k0_t1
  let v98 : BitVec 32 := Scalar.muli c2_i32_80 arg15
  let c1_i32_81 : BitVec 32 := 1#32
  let v99 : BitVec 32 := Scalar.addi v98 c1_i32_81
  let c2_i32_114 : BitVec 32 := 2#32
  let v131 : BitVec 32 := Scalar.subi v99 c2_i32_114
  let v132 : BitVec 32 := Scalar.addi v2 v131
  let c0_i32_115 : BitVec 32 := 0#32
  let c0_i32_116 : BitVec 32 := 0#32
  ![v132.toNat, 0, 0]
@[reducible] def k0_t3_loop : Scf.Loop 32 :=
  let c0_i32_106 : BitVec 32 := 0#32
  let c128_i32_107 : BitVec 32 := 128#32
  let v125 : BitVec 32 := Scalar.addi c0_i32_106 c128_i32_107
  let c1_i32_108 : BitVec 32 := 1#32
  ⟨c0_i32_106, v125, c1_i32_108⟩

def k0_chk2 (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) : Prop :=
  (∀ a x, ((![v131, v4] : Fin 2 → IVec S16 32) a x).toNat < S128x256.size a) ∧
  (∀ a x, ((![v131, v6] : Fin 2 → IVec S16 32) a x).toNat < S128x256.size a) ∧
  (∀ a x, ((![v131, v8] : Fin 2 → IVec S16 32) a x).toNat < S128x256.size a) ∧
  (∀ a x, ((![v131, v10] : Fin 2 → IVec S16 32) a x).toNat < S128x256.size a) ∧
  (∀ a x, ((![v131, v12] : Fin 2 → IVec S16 32) a x).toNat < S128x256.size a) ∧
  (∀ a x, ((![v131, v14] : Fin 2 → IVec S16 32) a x).toNat < S128x256.size a) ∧
  (∀ a x, ((![v131, v16] : Fin 2 → IVec S16 32) a x).toNat < S128x256.size a) ∧
  (∀ a x, ((![v131, v18] : Fin 2 → IVec S16 32) a x).toNat < S128x256.size a) ∧
  (∀ a x, ((![v131, v20] : Fin 2 → IVec S16 32) a x).toNat < S128x256.size a) ∧
  (∀ a x, ((![v131, v22] : Fin 2 → IVec S16 32) a x).toNat < S128x256.size a) ∧
  (∀ a x, ((![v131, v24] : Fin 2 → IVec S16 32) a x).toNat < S128x256.size a) ∧
  (∀ a x, ((![v131, v26] : Fin 2 → IVec S16 32) a x).toNat < S128x256.size a) ∧
  (∀ a x, ((![v131, v28] : Fin 2 → IVec S16 32) a x).toNat < S128x256.size a) ∧
  (∀ a x, ((![v131, v30] : Fin 2 → IVec S16 32) a x).toNat < S128x256.size a) ∧
  (∀ a x, ((![v131, v32] : Fin 2 → IVec S16 32) a x).toNat < S128x256.size a) ∧
  (∀ a x, ((![v131, v34] : Fin 2 → IVec S16 32) a x).toNat < S128x256.size a) ∧
  (∀ a x, ((![v35, v131] : Fin 2 → IVec S16 32) a x).toNat < S16x128.size a)
theorem k0_idx18_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v4] : Fin 2 → IVec S16 32) a x).toNat < S128x256.size a := fun v4 v6 v8 v10 v12 v14 v16 v18 v20 v22 v24 v26 v28 v30 v32 v34 v35 v131 k0_hw2 => k0_hw2.1
theorem k0_idx19_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v6] : Fin 2 → IVec S16 32) a x).toNat < S128x256.size a := fun v4 v6 v8 v10 v12 v14 v16 v18 v20 v22 v24 v26 v28 v30 v32 v34 v35 v131 k0_hw2 => k0_hw2.2.1
theorem k0_idx20_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v8] : Fin 2 → IVec S16 32) a x).toNat < S128x256.size a := fun v4 v6 v8 v10 v12 v14 v16 v18 v20 v22 v24 v26 v28 v30 v32 v34 v35 v131 k0_hw2 => k0_hw2.2.2.1
theorem k0_idx21_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v10] : Fin 2 → IVec S16 32) a x).toNat < S128x256.size a := fun v4 v6 v8 v10 v12 v14 v16 v18 v20 v22 v24 v26 v28 v30 v32 v34 v35 v131 k0_hw2 => k0_hw2.2.2.2.1
theorem k0_idx22_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v12] : Fin 2 → IVec S16 32) a x).toNat < S128x256.size a := fun v4 v6 v8 v10 v12 v14 v16 v18 v20 v22 v24 v26 v28 v30 v32 v34 v35 v131 k0_hw2 => k0_hw2.2.2.2.2.1
theorem k0_idx23_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v14] : Fin 2 → IVec S16 32) a x).toNat < S128x256.size a := fun v4 v6 v8 v10 v12 v14 v16 v18 v20 v22 v24 v26 v28 v30 v32 v34 v35 v131 k0_hw2 => k0_hw2.2.2.2.2.2.1
theorem k0_idx24_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v16] : Fin 2 → IVec S16 32) a x).toNat < S128x256.size a := fun v4 v6 v8 v10 v12 v14 v16 v18 v20 v22 v24 v26 v28 v30 v32 v34 v35 v131 k0_hw2 => k0_hw2.2.2.2.2.2.2.1
theorem k0_idx25_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v18] : Fin 2 → IVec S16 32) a x).toNat < S128x256.size a := fun v4 v6 v8 v10 v12 v14 v16 v18 v20 v22 v24 v26 v28 v30 v32 v34 v35 v131 k0_hw2 => k0_hw2.2.2.2.2.2.2.2.1
theorem k0_idx26_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v20] : Fin 2 → IVec S16 32) a x).toNat < S128x256.size a := fun v4 v6 v8 v10 v12 v14 v16 v18 v20 v22 v24 v26 v28 v30 v32 v34 v35 v131 k0_hw2 => k0_hw2.2.2.2.2.2.2.2.2.1
theorem k0_idx27_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v22] : Fin 2 → IVec S16 32) a x).toNat < S128x256.size a := fun v4 v6 v8 v10 v12 v14 v16 v18 v20 v22 v24 v26 v28 v30 v32 v34 v35 v131 k0_hw2 => k0_hw2.2.2.2.2.2.2.2.2.2.1
theorem k0_idx28_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v24] : Fin 2 → IVec S16 32) a x).toNat < S128x256.size a := fun v4 v6 v8 v10 v12 v14 v16 v18 v20 v22 v24 v26 v28 v30 v32 v34 v35 v131 k0_hw2 => k0_hw2.2.2.2.2.2.2.2.2.2.2.1
theorem k0_idx29_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v26] : Fin 2 → IVec S16 32) a x).toNat < S128x256.size a := fun v4 v6 v8 v10 v12 v14 v16 v18 v20 v22 v24 v26 v28 v30 v32 v34 v35 v131 k0_hw2 => k0_hw2.2.2.2.2.2.2.2.2.2.2.2.1
theorem k0_idx30_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v28] : Fin 2 → IVec S16 32) a x).toNat < S128x256.size a := fun v4 v6 v8 v10 v12 v14 v16 v18 v20 v22 v24 v26 v28 v30 v32 v34 v35 v131 k0_hw2 => k0_hw2.2.2.2.2.2.2.2.2.2.2.2.2.1
theorem k0_idx31_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v30] : Fin 2 → IVec S16 32) a x).toNat < S128x256.size a := fun v4 v6 v8 v10 v12 v14 v16 v18 v20 v22 v24 v26 v28 v30 v32 v34 v35 v131 k0_hw2 => k0_hw2.2.2.2.2.2.2.2.2.2.2.2.2.2.1
theorem k0_idx32_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v32] : Fin 2 → IVec S16 32) a x).toNat < S128x256.size a := fun v4 v6 v8 v10 v12 v14 v16 v18 v20 v22 v24 v26 v28 v30 v32 v34 v35 v131 k0_hw2 => k0_hw2.2.2.2.2.2.2.2.2.2.2.2.2.2.2.1
theorem k0_idx33_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v131, v34] : Fin 2 → IVec S16 32) a x).toNat < S128x256.size a := fun v4 v6 v8 v10 v12 v14 v16 v18 v20 v22 v24 v26 v28 v30 v32 v34 v35 v131 k0_hw2 => k0_hw2.2.2.2.2.2.2.2.2.2.2.2.2.2.2.2.1
theorem k0_idx34_inb : ∀ (v4 : IVec S16 32) (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v35 : IVec S16 32) (v131 : IVec S16 32) (k0_hw2 : k0_chk2 v4 v6 v8 v10 v12 v14 v16 v18 v20 v22 v24 v26 v28 v30 v32 v34 v35 v131), ∀ a x, ((![v35, v131] : Fin 2 → IVec S16 32) a x).toNat < S16x128.size a := fun v4 v6 v8 v10 v12 v14 v16 v18 v20 v22 v24 v26 v28 v30 v32 v34 v35 v131 k0_hw2 => k0_hw2.2.2.2.2.2.2.2.2.2.2.2.2.2.2.2.2
def k0_off14 (i : grid0.Coords) (c68_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c70_i32 : BitVec 32 := 70#32
  let v2 : BitVec 32 := Scalar.muli v1 c70_i32
  let v55 : BitVec 32 := Scalar.addi v2 c68_i32
  let c0_i32_39 : BitVec 32 := 0#32
  let c0_i32_40 : BitVec 32 := 0#32
  ![v55.toNat, 0, 0]
abbrev grid1 : Pipeline.Grid := ⟨1, ![28], ![false]⟩

def cc1_transform_0 (i : grid1.Coords) : Fin 3 → Nat :=
  let arg0 : BitVec 32 := BitVec.ofNat 32 (i 0).val
  let c70_i32 : BitVec 32 := 70#32
  let v0 : BitVec 32 := Scalar.addi c70_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S32x128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x128x196x256 : Shape := ⟨4, ![16, 128, 196, 256]⟩
abbrev S16x16 : Shape := ⟨2, ![16, 16]⟩
abbrev S_ : Shape := ⟨0, ![]⟩
abbrev S16x16x1 : Shape := ⟨3, ![16, 16, 1]⟩
abbrev S16x128x196x16x16 : Shape := ⟨5, ![16, 128, 196, 16, 16]⟩
abbrev S16x128x196x16 : Shape := ⟨4, ![16, 128, 196, 16]⟩

abbrev nBuf : Space → Nat
  | .hbm => 13
  | .vmem => 0
  | .smem => 0
  | _ => 0

abbrev bufTy : (tb : Table) → Fin (tcTables nBuf tb) → BufTy
  | .hbm, ⟨0, _⟩ => ⟨S16x128x196x256, .f32⟩
  | .hbm, ⟨1, _⟩ => ⟨S16x16, .i32⟩
  | .hbm, ⟨2, _⟩ => ⟨S_, .i32⟩
  | .hbm, ⟨3, _⟩ => ⟨S16x16, .i32⟩
  | .hbm, ⟨4, _⟩ => ⟨S16x16, .i1⟩
  | .hbm, ⟨5, _⟩ => ⟨S_, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S16x16x1, .i32⟩
  | .hbm, ⟨10, _⟩ => ⟨S16x128x196x16x16, .f32⟩
  | .hbm, ⟨11, _⟩ => ⟨S_, .f32⟩
  | .hbm, ⟨12, _⟩ => ⟨S16x128x196x16, .f32⟩
  | _, _ => ⟨S16x128x196x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.Geo.lean ====
/-
  The geometry of the copies: a window of one leading index and a box of the other two axes, seen as a two-axis
  array; and what a row of sixteen single-element stores leaves behind.
-/
module

public import Idealize.ShloMosaic.Lib.SparseCore.Quiescent
public import Idealize.ShloMosaic.Lib.Pipeline.Kit
public import Idealize.ShloMosaic.Lib.ValueLayout
public import Idealize.ShloMosaic.Lib.Tactic

@[expose] public section

noncomputable section

namespace Cert.Proof.Geo

open Idealize.ShloMosaic ValueIdx

/-- Where a window's element sits in its three-axis array, coordinate by coordinate. -/
theorem rect_emb {n0 n1 n2 m1 m2 : ℕ} (off : Fin 3 → ℕ)
    (inb : ∀ a, off a + (![1, m1, m2] : Fin 3 → ℕ) a ≤ (⟨3, ![n0, n1, n2]⟩ : Shape).size a)
    (h : (⟨2, ![m1, m2]⟩ : Shape).numel = (⟨3, ![1, m1, m2]⟩ : Shape).numel) (j : (⟨2, ![m1, m2]⟩ : Shape).Idx) :
    ((Rect.unit (s := ⟨3, ![n0, n1, n2]⟩) off ![1, m1, m2] inb).emb (Shape.reshapeEquiv h j) 0).val = off 0
    ∧ ((Rect.unit (s := ⟨3, ![n0, n1, n2]⟩) off ![1, m1, m2] inb).emb (Shape.reshapeEquiv h j) 1).val = off 1 + (j 0).val
    ∧ ((Rect.unit (s := ⟨3, ![n0, n1, n2]⟩) off ![1, m1, m2] inb).emb (Shape.reshapeEquiv h j) 2).val = off 2 + (j 1).val := by
  obtain ⟨x, y, rfl⟩ : ∃ (x : Fin m1) (y : Fin m2), j = ix2 x y := ⟨j 0, j 1, by funext a; fin_cases a <;> rfl⟩
  rw [reshapeEquiv_ix2_1ab h x y]
  refine ⟨?_, ?_, ?_⟩
  · change off 0 + 1 * 0 = off 0; omega
  · change off 1 + 1 * x.val = off 1 + x.val; omega
  · change off 2 + 1 * y.val = off 2 + y.val; omega

/-- The elements of a window, by coordinates. -/
theorem mem_rect {n0 n1 n2 m1 m2 : ℕ} (off : Fin 3 → ℕ)
    (inb : ∀ a, off a + (![1, m1, m2] : Fin 3 → ℕ) a ≤ (⟨3, ![n0, n1, n2]⟩ : Shape).size a) (y : (⟨3, ![n0, n1, n2]⟩ : Shape).Idx) :
    y ∈ (Rect.unit (s := ⟨3, ![n0, n1, n2]⟩) off ![1, m1, m2] inb).set
      ↔ (y 0).val = off 0 ∧ (off 1 ≤ (y 1).val ∧ (y 1).val < off 1 + m1) ∧ (off 2 ≤ (y 2).val ∧ (y 2).val < off 2 + m2) := by
  rw [Rect.mem_set_unit]
  constructor
  · intro h
    have h0 := h 0; have h1 := h 1; have h2 := h 2
    simp at h0 h1 h2
    refine ⟨by omega, ⟨by omega, by omega⟩, by omega, by omega⟩
  · rintro ⟨h0, ⟨h1, h1'⟩, h2, h2'⟩ a
    fin_cases a <;> simp <;> omega

/-- A box of a three-axis array: one leading index, a range of the middle axis, all of the last. -/
def box {n0 n1 n2 : ℕ} (a lo hi : ℕ) : Finset (⟨3, ![n0, n1, n2]⟩ : Shape).Idx :=
  Finset.univ.filter fun y => (y 0).val = a ∧ lo ≤ (y 1).val ∧ (y 1).val < hi

theorem mem_box {n0 n1 n2 : ℕ} {a lo hi : ℕ} {y : (⟨3, ![n0, n1, n2]⟩ : Shape).Idx} :
    y ∈ (box a lo hi : Finset (⟨3, ![n0, n1, n2]⟩ : Shape).Idx) ↔ (y 0).val = a ∧ lo ≤ (y 1).val ∧ (y 1).val < hi := by
  simp [box]

/-- A window over the whole of the last axis is a box. -/
theorem rect_set {n0 n1 n2 m1 : ℕ} (off : Fin 3 → ℕ)
    (inb : ∀ a, off a + (![1, m1, n2] : Fin 3 → ℕ) a ≤ (⟨3, ![n0, n1, n2]⟩ : Shape).size a) (h2 : off 2 = 0) :
    (Rect.unit (s := ⟨3, ![n0, n1, n2]⟩) off ![1, m1, n2] inb).set = box (off 0) (off 1) (off 1 + m1) := by
  ext y
  rw [mem_rect, mem_box, h2]
  have : (y 2).val < n2 := (y 2).isLt
  constructor
  · rintro ⟨h, h', -⟩; exact ⟨h, h'⟩
  · rintro ⟨h, h'⟩; exact ⟨h, h', by omega, by omega⟩

/-- Two boxes that meet make one. -/
theorem box_union {n0 n1 n2 : ℕ} {a lo mid hi : ℕ} (h1 : lo ≤ mid) (h2 : mid ≤ hi) :
    (box a lo hi : Finset (⟨3, ![n0, n1, n2]⟩ : Shape).Idx) = box a lo mid ∪ box a mid hi := by
  ext y; rw [Finset.mem_union, mem_box, mem_box, mem_box]; omega

theorem box_disjoint {n0 n1 n2 : ℕ} {a lo mid hi : ℕ} :
    Disjoint (box a lo mid : Finset (⟨3, ![n0, n1, n2]⟩ : Shape).Idx) (box a mid hi) := by
  rw [Finset.disjoint_left]; intro y hy hy'; rw [mem_box] at hy hy'; omega

theorem box_disjoint_of_ne {n0 n1 n2 : ℕ} {a b lo hi lo' hi' : ℕ} (h : a ≠ b) :
    Disjoint (box a lo hi : Finset (⟨3, ![n0, n1, n2]⟩ : Shape).Idx) (box b lo' hi') := by
  rw [Finset.disjoint_left]; intro y hy hy'; rw [mem_box] at hy hy'; omega

/-- Rows `lo` to `hi` of a three-axis array. -/
def rows {n0 n1 n2 : ℕ} (lo hi : ℕ) : Finset (⟨3, ![n0, n1, n2]⟩ : Shape).Idx :=
  Finset.univ.filter fun y => lo ≤ (y 0).val ∧ (y 0).val < hi

theorem mem_rows {n0 n1 n2 : ℕ} {lo hi : ℕ} {y : (⟨3, ![n0, n1, n2]⟩ : Shape).Idx} :
    y ∈ (rows lo hi : Finset (⟨3, ![n0, n1, n2]⟩ : Shape).Idx) ↔ lo ≤ (y 0).val ∧ (y 0).val < hi := by
  simp [rows]

theorem rows_union {n0 n1 n2 : ℕ} {lo mid hi : ℕ} (h1 : lo ≤ mid) (h2 : mid ≤ hi) :
    (rows lo hi : Finset (⟨3, ![n0, n1, n2]⟩ : Shape).Idx) = rows lo mid ∪ rows mid hi := by
  ext y; rw [Finset.mem_union, mem_rows, mem_rows, mem_rows]; omega

theorem rows_disjoint {n0 n1 n2 : ℕ} {lo mid mid' hi : ℕ} (h : mid ≤ mid') :
    Disjoint (rows lo mid : Finset (⟨3, ![n0, n1, n2]⟩ : Shape).Idx) (rows mid' hi) := by
  rw [Finset.disjoint_left]; intro y hy hy'; rw [mem_rows] at hy hy'; omega

/-- One row is a box of all of the middle axis. -/
theorem rows_one {n0 n1 n2 : ℕ} (a : ℕ) : (rows a (a + 1) : Finset (⟨3, ![n0, n1, n2]⟩ : Shape).Idx) = box a 0 n1 := by
  ext y; rw [mem_rows, mem_box]
  have : (y 1).val < n1 := (y 1).isLt
  omega

theorem rows_empty {n0 n1 n2 : ℕ} (a : ℕ) : (rows a a : Finset (⟨3, ![n0, n1, n2]⟩ : Shape).Idx) = ∅ := by
  ext y; rw [mem_rows]; simp

theorem rows_univ {n0 n1 n2 : ℕ} : (rows 0 n0 : Finset (⟨3, ![n0, n1, n2]⟩ : Shape).Idx) = Finset.univ := by
  ext y; rw [mem_rows]
  have : (y 0).val < n0 := (y 0).isLt
  simp only [Finset.mem_univ, iff_true]; omega

/-- Sixteen stores, lane `k`'s to row `k` of column `rr`: column `rr` holds the lanes' values, the rest is as before. -/
theorem storeIdx_col {F : FTy → Type} [FloatOps F] {n : ℕ} (f : Vec F (⟨2, ![16, n]⟩ : Shape) .f32)
    (idxs : Fin 2 → IVec (⟨1, ![16]⟩ : Shape) 32) (v : Vec F (⟨1, ![16]⟩ : Shape) .f32)
    (h : ∀ a x, (idxs a x).toNat < (⟨2, ![16, n]⟩ : Shape).size a) (rr : ℕ)
    (h0 : ∀ x, (idxs 0 x).toNat = (x 0).val) (h1 : ∀ x, (idxs 1 x).toNat = rr) (y : (⟨2, ![16, n]⟩ : Shape).Idx) :
    storeIdx f idxs v (fun _ => 1#1) false h y = if (y 1).val = rr then v (Shape.ofLane (y 0)) else f y := by
  obtain ⟨r, c, rfl⟩ : ∃ (r : Fin 16) (c : Fin n), y = ix2 r c := ⟨y 0, y 1, by funext a; fin_cases a <;> rfl⟩
  have key : ∀ (l : List (Fin 16)) (f : Vec F (⟨2, ![16, n]⟩ : Shape) .f32), l.Nodup →
      (l.foldl (fun (g : Vec F (⟨2, ![16, n]⟩ : Shape) .f32) k => fun j => if (∀ a, (j a).val = (idxAt idxs h (Shape.ofLane k) a).val) then v (Shape.ofLane k) else g j) f) (ix2 r c)
        = if c.val = rr ∧ r ∈ l then v (Shape.ofLane r) else f (ix2 r c) := by
    intro l
    induction l with
    | nil => intro f _; simp
    | cons k l ih =>
      intro f hl
      obtain ⟨hk, hl⟩ := List.nodup_cons.mp hl
      refine (ih _ hl).trans ?_
      have hiff : (∀ a, ((ix2 r c) a).val = (idxAt idxs h (Shape.ofLane k) a).val) ↔ (r = k ∧ c.val = rr) := by
        constructor
        · intro e
          have e0 := e 0; have e1 := e 1
          simp only [idxAt, h0, h1] at e0 e1
          exact ⟨Fin.ext e0, e1⟩
        · rintro ⟨e0, e1⟩ a
          refine Fin.cases ?_ (fun a => Fin.cases ?_ (fun a => a.elim0) a) a
          · show r.val = (idxs 0 (Shape.ofLane k)).toNat
            rw [h0, e0]; rfl
          · show c.val = (idxs 1 (Shape.ofLane k)).toNat
            rw [h1, e1]
      simp only [hiff]
      by_cases hr : c.val = rr
      · by_cases hy : r = k
        · simp [hr, hy, hk]
        · simp [hr, hy]
      · simp [hr]
  refine Eq.trans ?_ ((key (List.finRange 16) f (List.nodup_finRange 16)).trans (by simp; rfl))
  unfold storeIdx
  simp only [↓reduceIte, Bool.false_eq_true]
  rfl

end Cert.Proof.Geo

end
-- ==== Proof.Base.lean ====
/-
  The program as the launch theorem sees it, the resource algebra, and what the SparseCore kernel computes: the
  value functions its invariants carry.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Geo
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Cert.Proof.Geo

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds library, the left factor. -/
abbrev EH : Emb UH (MT nD τ sig (HIx 1) (Elt F) ℕ UU ℕ) := embL
/-- The transfers' counters, the last factor. -/
abbrev EC : UEmb Counters (MT nD τ sig (HIx 1) (Elt F) ℕ UU ℕ) := countersEmb

/-! ## The tile, its arrays and its buffers -/

abbrev cV (L : grid0.Coords) : Fin τ.nSC := (L 0).castLE hcore0
abbrev jV (L : grid0.Coords) : Fin τ.nSub := (L 1).castLE hsub0
/-- The tile at grid point `L` of device `d`. -/
abbrev thr (d : Dev nD) (L : grid0.Coords) : Thread nD τ := V d (cV L) (jV L)
/-- The first slab of the tile at grid point `L`: it computes seventy, from there on. -/
abbrev s0 (L : grid0.Coords) : ℕ := 140 * (L 1).val + 70 * (L 0).val

theorem s0_le (L : grid0.Coords) : s0 L + 70 ≤ 2240 := by
  have h0 : (L 0).val < 2 := (L 0).isLt
  have h1 : (L 1).val < 16 := (L 1).isLt
  show 140 * (L 1).val + 70 * (L 0).val + 70 ≤ 2240
  omega

abbrev xV : Memref sig .scVector .hbm S3136x128x256 .f32 := Memref.whole main_v1_scv
abbrev iV : Memref sig .scVector .hbm S16x16 .i32 := Memref.whole main_arg1_scv
abbrev oV : Memref sig .scVector .hbm S2240x16x128 .f32 := Memref.whole main_v2_scv
abbrev bX : Memref sig .scVector .vmem S2x128x256 .f32 := Memref.whole cc0_scratch0
abbrev b0 : Memref sig .scVector .vmem S16x128 .f32 := Memref.whole cc0_scratch1
abbrev b1 : Memref sig .scVector .vmem S16x128 .f32 := Memref.whole cc0_scratch2
abbrev bI : Memref sig .scVector .vmem S16x16 .i32 := Memref.whole cc0_scratch3

/-! ## The values -/

variable [FloatOps F]
variable (X : S3136x128x256.Idx → Elt F .f32) (I : S16x16.Idx → BitVec 32)

/-- Row `k` of the index table, as the vector a tile loads. -/
def ivec (k : Fin 16) : Vec F S16 .i32 := fun x => I (ix2 k (x 0))

/-- What lane `x` gathers for step `k` at row `r` of slab `s`. -/
def lv (s r : ℕ) (k : Fin 16) : Vec F S16 .f32 :=
  fun x => X (ix3 (Fin.ofNat 3136 s) (Fin.ofNat 128 r) (Fin.ofNat 256 (I (ix2 k (x 0))).toNat))

/-- The sixteen gathered vectors' maximum, in the kernel's order, at row `r` of slab `s`. -/
def gvec (s r : ℕ) : FVec F S16 .f32 :=
  k0_pay4 (k0_pay2 (lv X I s r 0) (lv X I s r 1) (lv X I s r 2) (lv X I s r 3) (lv X I s r 4) (lv X I s r 5) (lv X I s r 6) (lv X I s r 7))
    (lv X I s r 8) (lv X I s r 9) (lv X I s r 10) (lv X I s r 11) (lv X I s r 12) (lv X I s r 13) (lv X I s r 14) (lv X I s r 15)

/-- A tile's slab buffer when it holds slab `s` (in either half). -/
def gx (s : ℕ) : S2x128x256.Idx → Elt F .f32 := fun y => X (ix3 (Fin.ofNat 3136 s) (y 1) (y 2))

/-- A tile's result buffer when it holds slab `s`'s result. -/
def go (s : ℕ) : S16x128.Idx → Elt F .f32 := fun y => gvec X I s (y 1).val (Shape.ofLane (y 0))

/-- The result array. -/
def gout : S2240x16x128.Idx → Elt F .f32 := fun y => gvec X I (y 0).val (y 2).val (Shape.ofLane (y 1))

end Cert.Proof.KI

end
-- ==== Proof.Row.lean ====
/-
  The two row loops of a slab: at every row sixteen indexed loads out of the slab buffer, their maximum, and an indexed
  store of one column of the result buffer.
-/
module

public import proofs.«01_k».proof.Proof.Base

@[expose] public section

noncomputable section

namespace Cert.Proof.KI

open Cert.KernelIdeal Cert.KernelIdeal.Gen
open Cert.Proof.Geo

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable [FloatOps F]

local notation "𝕄" => MT nD τ sig (HIx 1) (Elt F) ℕ UU ℕ

variable (X : S3136x128x256.Idx → Elt F .f32) (I : S16x16.Idx → BitVec 32)
variable (d : Dev nD) (L : grid0.Coords)

/-- The lanes' own numbers. -/
abbrev lanes : IVec S16 32 := iota .scVector S16 32 [0] iota_S16_d0_w32_scVector

omit [FloatOps F] in
theorem lanes_toNat (x : S16.Idx) : (lanes x).toNat = (x 0).val := by
  have h : (x 0).val < 16 := (x 0).isLt
  show (BitVec.ofNat 32 (0 * 16 + (x 0).val)).toNat = _
  rw [BitVec.toNat_ofNat]
  omega

/-- A row of the index table, and the row number in every lane, are in range of the slab. -/
theorem inb_pair (hI : ∀ j, (I j).toNat < 256) {w : IVec S16 32} {r : ℕ} (hr : r < 128) (hw : ∀ x, (w x).toNat = r) (k : Fin 16) :
    ∀ a x, ((![w, ivec (F := F) I k] : Fin 2 → IVec S16 32) a x).toNat < S128x256.size a := by
  intro a x
  match a with
  | 0 => show (w x).toNat < 128; rw [hw]; exact hr
  | 1 => exact hI _

theorem inb_store {w : IVec S16 32} {r : ℕ} (hr : r < 128) (hw : ∀ x, (w x).toNat = r) :
    ∀ a x, ((![lanes, w] : Fin 2 → IVec S16 32) a x).toNat < S16x128.size a := by
  intro a x
  match a with
  | 0 => show (lanes x).toNat < 16; rw [lanes_toNat]; exact (x 0).isLt
  | 1 => show (w x).toNat < 128; rw [hw]; exact hr

/-- The slab of the buffer a row loop reads. -/
abbrev slab (off : Fin 3 → ℕ) (inb : ∀ a, off a + S1x128x256.size a ≤ S2x128x256.size a) : Memref sig .scVector .vmem S128x256 .f32 :=
  (bX.slice (Rect.unit (s := S2x128x256) off S1x128x256.size inb) (fun _ => rfl)).squeeze S128x256 squeezes_S1x128x256_S128x256

theorem slab_emb (off : Fin 3 → ℕ) (inb : ∀ a, off a + S1x128x256.size a ≤ S2x128x256.size a) (j : S128x256.Idx) :
    ((((slab off inb).access (.whole S128x256)).emb j : S2x128x256.Idx) 0).val = off 0
    ∧ ((((slab off inb).access (.whole S128x256)).emb j : S2x128x256.Idx) 1).val = off 1 + (j 0).val
    ∧ ((((slab off inb).access (.whole S128x256)).emb j : S2x128x256.Idx) 2).val = off 2 + (j 1).val := by
  have e : ((slab off inb).access (.whole S128x256)).emb j
      = (Rect.unit (s := S2x128x256) off S1x128x256.size inb).emb (Shape.reshapeEquiv squeezes_S1x128x256_S128x256.numel_eq j) := by
    show (Rect.unit (s := S2x128x256) off S1x128x256.size inb).emb
      (Shape.reshapeEquiv squeezes_S1x128x256_S128x256.numel_eq ((Rect.whole S128x256).emb j)) = _
    rw [Rect.emb_whole_apply]
  rw [e]
  exact rect_emb (n0 := 2) (n1 := 128) (n2 := 256) (m1 := 128) (m2 := 256) off inb _ j

/-- One indexed load of row `r`, from a buffer that holds slab `s`: what the lanes gather. -/
theorem wp_rowLoad (hI : ∀ j, (I j).toNat < 256) (off : Fin 3 → ℕ) (inb : ∀ a, off a + S1x128x256.size a ≤ S2x128x256.size a)
    {b : ℕ} (h0 : off 0 = b) (h1 : off 1 = 0) (h2 : off 2 = 0) {s r : ℕ} (hr : r < 128) {w : IVec S16 32} (hw : ∀ x, (w x).toNat = r) (k : Fin 16)
    {h : ∀ a x, ((![w, ivec (F := F) I k] : Fin 2 → IVec S16 32) a x).toNat < S128x256.size a} {hl : (slab off inb).view.Loads}
    {α : Type} {kk : Vec F S16 .f32 → Prog (TpuEff nD τ sig (Elt F) Λ₀ (thr d L).2) α} {Q : α → sProp 𝕄} :
    ((thr d L).loc cc0_scratch0 ↦[(box b 0 128 : Finset S2x128x256.Idx)]{fullShare} gx X s)
      ⊢ iprop((((thr d L).loc cc0_scratch0 ↦[(box b 0 128 : Finset S2x128x256.Idx)]{fullShare} gx X s)
          -∗ wp frame (wpE (defs₀ (F := F)) 𝒱₀ (thr d L) none) Set.univ (kk (lv X I s r k)) Q)
        -∗ wp frame (wpE (defs₀ (F := F)) 𝒱₀ (thr d L) none) Set.univ
            (SparseCore.vectorLoadIdx (slab off inb) ![w, ivec (F := F) I k] h hl >>= kk) Q) := by
  have hv : loadIdx (((slab off inb).access (.whole S128x256)).read (Elt F) (gx X s : S2x128x256.Idx → Elt F .f32)) ![w, ivec (F := F) I k] h
      = lv X I s r k := by
    funext x
    refine (View.read_apply _ _).trans ((cast_eq _ _).trans ?_)
    obtain ⟨-, e1, e2⟩ := slab_emb off inb (idxAt ![w, ivec (F := F) I k] h x)
    unfold gx lv
    congr 1
    have a1 : (idxAt (s := S128x256) (t := S16) ![w, ivec (F := F) I k] h x 0).val = r := hw x
    have a2 : (idxAt (s := S128x256) (t := S16) ![w, ivec (F := F) I k] h x 1).val = (I (ix2 k (x 0))).toNat := rfl
    have b2 := hI (ix2 k (x 0))
    refine congrArg₂ (ix3 (Fin.ofNat 3136 s)) (Fin.ext ?_) (Fin.ext ?_)
    · rw [e1, a1, h1, Fin.val_ofNat, Nat.mod_eq_of_lt hr, Nat.zero_add]
    · rw [e2, a2, h2, Fin.val_ofNat, Nat.mod_eq_of_lt b2, Nat.zero_add]
  have hS : (((slab off inb).access (.whole S128x256)).set : Finset S2x128x256.Idx) ⊆ box b 0 128 := by
    subst h0
    intro y hy
    obtain ⟨j, -, rfl⟩ := Finset.mem_map.mp hy
    obtain ⟨e0, e1, -⟩ := slab_emb off inb j
    have hj : (j 0).val < 128 := (j 0).isLt
    rw [mem_box]; omega
  have := SparseCore.wp_vectorLoadIdx (defs := defs₀ (F := F)) 𝒱₀ (thr d L) none Set.univ (base := slab off inb) (idxs := ![w, ivec (F := F) I k])
    (h := h) (hl := hl) (k := kk) (q := fullShare) (f := gx X s) (Q := Q) hS
  rw [hv] at this
  exact this

/-- The bounds check of a row: every load and the store are in range. -/
theorem chk1 (hI : ∀ j, (I j).toNat < 256) {w : IVec S16 32} {r : ℕ} (hr : r < 128) (hw : ∀ x, (w x).toNat = r) :
    k0_chk1 (ivec (F := F) I 0) (ivec (F := F) I 1) (ivec (F := F) I 2) (ivec (F := F) I 3) (ivec (F := F) I 4) (ivec (F := F) I 5) (ivec (F := F) I 6) (ivec (F := F) I 7) (ivec (F := F) I 8) (ivec (F := F) I 9) (ivec (F := F) I 10) (ivec (F := F) I 11) (ivec (F := F) I 12) (ivec (F := F) I 13) (ivec (F := F) I 14) (ivec (F := F) I 15) lanes w :=
  ⟨inb_pair I hI hr hw 0, inb_pair I hI hr hw 1, inb_pair I hI hr hw 2, inb_pair I hI hr hw 3, inb_pair I hI hr hw 4, inb_pair I hI hr hw 5, inb_pair I hI hr hw 6, inb_pair I hI hr hw 7, inb_pair I hI hr hw 8, inb_pair I hI hr hw 9, inb_pair I hI hr hw 10, inb_pair I hI hr hw 11, inb_pair I hI hr hw 12, inb_pair I hI hr hw 13, inb_pair I hI hr hw 14, inb_pair I hI hr hw 15, inb_store hr hw⟩

theorem chk2 (hI : ∀ j, (I j).toNat < 256) {w : IVec S16 32} {r : ℕ} (hr : r < 128) (hw : ∀ x, (w x).toNat = r) :
    k0_chk2 (ivec (F := F) I 0) (ivec (F := F) I 1) (ivec (F := F) I 2) (ivec (F := F) I 3) (ivec (F := F) I 4) (ivec (F := F) I 5) (ivec (F := F) I 6) (ivec (F := F) I 7) (ivec (F := F) I 8) (ivec (F := F) I 9) (ivec (F := F) I 10) (ivec (F := F) I 11) (ivec (F := F) I 12) (ivec (F := F) I 13) (ivec (F := F) I 14) (ivec (F := F) I 15) lanes w :=
  ⟨inb_pair I hI hr hw 0, inb_pair I hI hr hw 1, inb_pair I hI hr hw 2, inb_pair I hI hr hw 3, inb_pair I hI hr hw 4, inb_pair I hI hr hw 5, inb_pair I hI hr hw 6, inb_pair I hI hr hw 7, inb_pair I hI hr hw 8, inb_pair I hI hr hw 9, inb_pair I hI hr hw 10, inb_pair I hI hr hw 11, inb_pair I hI hr hw 12, inb_pair I hI hr hw 13, inb_pair I hI hr hw 14, inb_pair I hI hr hw 15, inb_store hr hw⟩

/-- The row number in every lane. -/
theorem row_toNat {r : ℕ} (hr : r < 128) (x : S16.Idx) : ((broadcast S16 (0#32 + BitVec.ofNat 32 r * 1#32) : IVec S16 32) x).toNat = r := by
  show (0#32 + BitVec.ofNat 32 r * 1#32).toNat = r
  simp only [BitVec.zero_add, BitVec.mul_one, BitVec.toNat_ofNat]
  omega

/-- A result buffer after the store of column `r`: one more column done. -/
theorem store_step {s r : ℕ} (hr : r < 128) {w : IVec S16 32} (hw : ∀ x, (w x).toNat = r)
    (f : S16x128.Idx → Elt F .f32) (hf : ∀ y : S16x128.Idx, (y 1).val < r → f y = go X I s y)
    (h : ∀ a x, ((![lanes, w] : Fin 2 → IVec S16 32) a x).toNat < S16x128.size a) (y : S16x128.Idx) (hy : (y 1).val < r + 1) :
    (storeIdx (F := F) (e := .f32) f ![lanes, w] (gvec X I s r) (fun _ => 1#1) false h : S16x128.Idx → Elt F .f32) y = go X I s y := by
  refine (storeIdx_col (n := 128) f ![lanes, w] (gvec X I s r) h r (fun x => lanes_toNat x) (fun x => hw x) y).trans ?_
  split
  · next e => subst e; rfl
  · exact hf y (by omega)

/-- Before row `r` of half 0: the half holds slab `s`; the result buffer's first `r` columns are slab `s`'s result. -/
def rowInv0 (s r : ℕ) : sProp 𝕄 :=
  iprop(((thr d L).loc cc0_scratch0 ↦[(box 0 0 128 : Finset S2x128x256.Idx)]{fullShare} gx X s)
    ∗ ∃ f : S16x128.Idx → Elt F .f32, ⌜∀ y : S16x128.Idx, (y 1).val < r → f y = go X I s y⌝ ∗ (thr d L).loc cc0_scratch1 ↦{fullShare} f)

/-- One trip of the row loop over half 0: column `r` of the result buffer is computed. -/
theorem row0_wp (hI : ∀ j, (I j).toNat < 256) (s : ℕ) (a9 a10 a11 a12 a13 a14 r0 : DmaSems sig S_) (v2 : BitVec 32) (k1 : Fin k0_t1_loop.trips) (u1 u2 : BitVec 32) (rr : Fin k0_t2_loop.trips) :
    rowInv0 X I d L s rr.val
      ⊢ wp frame (wpE (defs₀ (F := F)) 𝒱₀ (thr d L) none) Set.univ
          (k0_t2_body (F := F) L xV (Memref.isWhole_whole _) iV (Memref.isWhole_whole _) oV (Memref.isWhole_whole _) bX (Memref.isWhole_whole _) b0 (Memref.isWhole_whole _) b1 (Memref.isWhole_whole _) bI (Memref.isWhole_whole _) a9 a10 a11 a12 a13 a14 r0 v2 (ivec (F := F) I 0) (ivec (F := F) I 1) (ivec (F := F) I 2) (ivec (F := F) I 3) (ivec (F := F) I 4) (ivec (F := F) I 5) (ivec (F := F) I 6) (ivec (F := F) I 7) (ivec (F := F) I 8) (ivec (F := F) I 9) (ivec (F := F) I 10) (ivec (F := F) I 11) (ivec (F := F) I 12) (ivec (F := F) I 13) (ivec (F := F) I 14) (ivec (F := F) I 15) lanes k1 u1 u2 0#32 128#32 rr ()) fun _ => rowInv0 X I d L s (rr.val + 1) := by
  have hr : rr.val < 128 := lt_of_lt_of_le rr.isLt k0_t2_abs.2.1
  have hw := row_toNat hr
  have hc := chk1 (F := F) I hI hr hw
  unfold k0_t2_body
  simp only [k0_part1_eq_skeleton]
  unfold k0_part1_skel
  simp only [Scf.iv, Prog.lift, Prog.bind_assoc, Prog.bind_op, Prog.bind_ret, Prog.pure_eq_ret]
  rw [wp_assume_of _ _ _ _ hc]
  simp only [Prog.bind_assoc, Prog.bind_ret]
  unfold rowInv0
  iintro ⟨Hx, %f, %hf, Hb⟩
  iterate 16
    iapply (wp_rowLoad (b := 0) X I d L hI ![0, 0, 0] _ rfl rfl rfl hr hw _) $$ Hx
    iintro Hx
  have e : (b0.access (.whole S16x128)).set = (Finset.univ : Finset S16x128.Idx) := Memref.set_access_whole cc0_scratch1
  have ew : ∀ g, (b0.access (.whole S16x128)).write (Elt F) f g Finset.univ = g := Memref.write_access_whole_univ (Elt F) cc0_scratch1 f
  have er : (b0.access (.whole S16x128)).read (Elt F) f = f := Memref.read_access_whole (Elt F) cc0_scratch1 f
  have hst := SparseCore.wp_vectorStoreIdx (defs := defs₀ (F := F)) (α := Unit) 𝒱₀ (thr d L) none Set.univ (base := b0)
    (idxs := ![lanes, broadcast S16 (0#32 + BitVec.ofNat 32 rr.val * 1#32)]) (v := gvec X I s rr.val) (mask := fun _ => 1#1) (add := false)
    (h := inb_store hr hw) (hs := View.stores_vmem_bits_univ h_S16x128 rfl) (k := fun _ => Prog.ret PUnit.unit) (f := f)
    (Q := fun _ => rowInv0 X I d L s (rr.val + 1))
  rw [e, ew, er] at hst
  iapply hst $$ Hb
  iintro Hb
  rw [wp_ret]
  imodintro
  unfold rowInv0
  isplitl [Hx]; · iexact Hx
  iexists (storeIdx (F := F) (e := .f32) f ![lanes, broadcast S16 (0#32 + BitVec.ofNat 32 rr.val * 1#32)] (gvec X I s rr.val)
    (fun _ => 1#1) false (inb_store hr hw) : S16x128.Idx → Elt F .f32)
  isplitr; · ipureintro; exact fun y hy => store_step X I hr hw f hf _ y hy
  iexact Hb

/-- Before row `r` of half 1: the half holds slab `s`; the result buffer's first `r` columns are slab `s`'s result. -/
def rowInv1 (s r : ℕ) : sProp 𝕄 :=
  iprop(((thr d L).loc cc0_scratch0 ↦[(box 1 0 128 : Finset S2x128x256.Idx)]{fullShare} gx X s)
    ∗ ∃ f : S16x128.Idx → Elt F .f32, ⌜∀ y : S16x128.Idx, (y 1).val < r → f y = go X I s y⌝ ∗ (thr d L).loc cc0_scratch2 ↦{fullShare} f)

/-- One trip of the row loop over half 1: column `r` of the result buffer is computed. -/
theorem row1_wp (hI : ∀ j, (I j).toNat < 256) (s : ℕ) (a9 a10 a11 a12 a13 a14 r0 : DmaSems sig S_) (rr : Fin k0_t3_loop.trips) :
    rowInv1 X I d L s rr.val
      ⊢ wp frame (wpE (defs₀ (F := F)) 𝒱₀ (thr d L) none) Set.univ
          (k0_t3_body (F := F) L xV (Memref.isWhole_whole _) iV (Memref.isWhole_whole _) oV (Memref.isWhole_whole _) bX (Memref.isWhole_whole _) b0 (Memref.isWhole_whole _) b1 (Memref.isWhole_whole _) bI (Memref.isWhole_whole _) a9 a10 a11 a12 a13 a14 r0 (ivec (F := F) I 0) (ivec (F := F) I 1) (ivec (F := F) I 2) (ivec (F := F) I 3) (ivec (F := F) I 4) (ivec (F := F) I 5) (ivec (F := F) I 6) (ivec (F := F) I 7) (ivec (F := F) I 8) (ivec (F := F) I 9) (ivec (F := F) I 10) (ivec (F := F) I 11) (ivec (F := F) I 12) (ivec (F := F) I 13) (ivec (F := F) I 14) (ivec (F := F) I 15) lanes rr ()) fun _ => rowInv1 X I d L s (rr.val + 1) := by
  have hr : rr.val < 128 := lt_of_lt_of_le rr.isLt k0_t3_abs.2.1
  have hw := row_toNat hr
  have hc := chk2 (F := F) I hI hr hw
  unfold k0_t3_body
  simp only [k0_part2_eq_skeleton]
  unfold k0_part2_skel
  simp only [Scf.iv, Prog.lift, Prog.bind_assoc, Prog.bind_op, Prog.bind_ret, Prog.pure_eq_ret]
  rw [wp_assume_of _ _ _ _ hc]
  simp only [Prog.bind_assoc, Prog.bind_ret]
  unfold rowInv1
  iintro ⟨Hx, %f, %hf, Hb⟩
  iterate 16
    iapply (wp_rowLoad (b := 1) X I d L hI ![1, 0, 0] _ rfl rfl rfl hr hw _) $$ Hx
    iintro Hx
  have e : (b1.access (.whole S16x128)).set = (Finset.univ : Finset S16x128.Idx) := Memref.set_access_whole cc0_scratch2
  have ew : ∀ g, (b1.access (.whole S16x128)).write (Elt F) f g Finset.univ = g := Memref.write_access_whole_univ (Elt F) cc0_scratch2 f
  have er : (b1.access (.whole S16x128)).read (Elt F) f = f := Memref.read_access_whole (Elt F) cc0_scratch2 f
  have hst := SparseCore.wp_vectorStoreIdx (defs := defs₀ (F := F)) (α := Unit) 𝒱₀ (thr d L) none Set.univ (base := b1)
    (idxs := ![lanes, broadcast S16 (0#32 + BitVec.ofNat 32 rr.val * 1#32)]) (v := gvec X I s rr.val) (mask := fun _ => 1#1) (add := false)
    (h := inb_store hr hw) (hs := View.stores_vmem_bits_univ h_S16x128 rfl) (k := fun _ => Prog.ret PUnit.unit) (f := f)
    (Q := fun _ => rowInv1 X I d L s (rr.val + 1))
  rw [e, ew, er] at hst
  iapply hst $$ Hb
  iintro Hb
  rw [wp_ret]
  imodintro
  unfold rowInv1
  isplitl [Hx]; · iexact Hx
  iexists (storeIdx (F := F) (e := .f32) f ![lanes, broadcast S16 (0#32 + BitVec.ofNat 32 rr.val * 1#32)] (gvec X I s rr.val)
    (fun _ => 1#1) false (inb_store hr hw) : S16x128.Idx → Elt F .f32)
  isplitr; · ipureintro; exact fun y hy => store_step X I hr hw f hf _ y hy
  iexact Hb

end Cert.Proof.KI

end
-- ==== Proof.Copy.lean ====
/-
  The tile's asynchronous copies, each as one rule: a fetch of half a slab, a write-out of a result, and the wait that
  takes what a copy delivers.
-/
module

public import proofs.«01_k».proof.Proof.Base

@[expose] public section

noncomputable section

namespace Cert.Proof.KI

open Cert.KernelIdeal Cert.KernelIdeal.Gen
open Cert.Proof.Geo

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Transfers (Flight Flight_mono wp_dmaLocal wp_waitLocalO)

variable [FloatOps F]

local notation "𝕄" => MT nD τ sig (HIx 1) (Elt F) ℕ UU ℕ

variable (X : S3136x128x256.Idx → Elt F .f32) (I : S16x16.Idx → BitVec 32)
variable (d : Dev nD) (L : grid0.Coords)

/-- What is kept aside while a copy is in flight can be counted with what it delivers. -/
theorem Flight_frame {c : Thread nD τ} {sm : SemLoc sig} {ι : HIx 1} {N : ℕ} {D R : sProp 𝕄} :
    iprop(Flight EC c sm ι N D ∗ R) ⊢ (Flight EC c sm ι N iprop(D ∗ R) : sProp 𝕄) := by
  unfold Transfers.Flight
  iintro ⟨⟨⟨%S, HS, %hcap, %hpeek⟩, Hcred⟩, HR⟩
  isplitl [HS HR]
  · iexists iprop(S ∗ R)
    isplitl [HS HR]; · isplitl [HS] <;> iassumption
    isplit
    · ipureintro
      intro K'
      refine BIBase.Entails.trans ?_ (hcap K')
      iintro ⟨⟨HS, HR⟩, HK⟩
      isplitl [HS]; · iexact HS
      iintro ⟨Hv, HD⟩
      iapply HK
      isplitl [Hv]; · iexact Hv
      isplitl [HD] <;> iassumption
    · ipureintro
      intro K'
      refine BIBase.Entails.trans ?_ (hpeek K')
      iintro ⟨⟨HS, HR⟩, HK⟩
      isplitl [HS]; · iexact HS
      iintro HS
      iapply HK
      isplitl [HS] <;> iassumption
  · iexact Hcred

/-! ## The windows the copies go through -/

/-- Half a slab of the input, and of the slab buffer. -/
abbrev xWin (off : Fin 3 → ℕ) (inb : ∀ a, off a + S1x64x256.size a ≤ S3136x128x256.size a) : Memref sig .scVector .hbm S64x256 .f32 :=
  (xV.slice (Rect.unit (s := S3136x128x256) off S1x64x256.size inb) (fun _ => rfl)).squeeze S64x256 squeezes_S1x64x256_S64x256
abbrev bWin (off : Fin 3 → ℕ) (inb : ∀ a, off a + S1x64x256.size a ≤ S2x128x256.size a) : Memref sig .scVector .vmem S64x256 .f32 :=
  (bX.slice (Rect.unit (s := S2x128x256) off S1x64x256.size inb) (fun _ => rfl)).squeeze S64x256 squeezes_S1x64x256_S64x256
/-- One row of the result array. -/
abbrev oWin (off : Fin 3 → ℕ) (inb : ∀ a, off a + S1x16x128.size a ≤ S2240x16x128.size a) : Memref sig .scVector .hbm S16x128 .f32 :=
  (oV.slice (Rect.unit (s := S2240x16x128) off S1x16x128.size inb) (fun _ => rfl)).squeeze S16x128 squeezes_S1x16x128_S16x128

theorem xWin_set (off : Fin 3 → ℕ) (inb : ∀ a, off a + S1x64x256.size a ≤ S3136x128x256.size a) (h2 : off 2 = 0) :
    ((xWin off inb).view.set : Finset S3136x128x256.Idx) = box (off 0) (off 1) (off 1 + 64) := by
  show ((((View.whole main_v1_scv).slice (Rect.unit (s := S3136x128x256) off S1x64x256.size inb)).reshape S64x256 squeezes_S1x64x256_S64x256.numel_eq).set : Finset S3136x128x256.Idx) = _
  rw [View.set_reshape, View.set_slice_whole]
  exact rect_set (n0 := 3136) (n1 := 128) (n2 := 256) (m1 := 64) off inb h2

theorem bWin_set (off : Fin 3 → ℕ) (inb : ∀ a, off a + S1x64x256.size a ≤ S2x128x256.size a) (h2 : off 2 = 0) :
    ((bWin off inb).view.set : Finset S2x128x256.Idx) = box (off 0) (off 1) (off 1 + 64) := by
  show ((((View.whole cc0_scratch0).slice (Rect.unit (s := S2x128x256) off S1x64x256.size inb)).reshape S64x256 squeezes_S1x64x256_S64x256.numel_eq).set : Finset S2x128x256.Idx) = _
  rw [View.set_reshape, View.set_slice_whole]
  exact rect_set (n0 := 2) (n1 := 128) (n2 := 256) (m1 := 64) off inb h2

theorem oWin_set (off : Fin 3 → ℕ) (inb : ∀ a, off a + S1x16x128.size a ≤ S2240x16x128.size a) (h1 : off 1 = 0) (h2 : off 2 = 0) :
    ((oWin off inb).view.set : Finset S2240x16x128.Idx) = rows (off 0) (off 0 + 1) := by
  show ((((View.whole main_v2_scv).slice (Rect.unit (s := S2240x16x128) off S1x16x128.size inb)).reshape S16x128 squeezes_S1x16x128_S16x128.numel_eq).set : Finset S2240x16x128.Idx) = _
  rw [View.set_reshape, View.set_slice_whole, rows_one, rect_set (n0 := 2240) (n1 := 16) (n2 := 128) (m1 := 16) off inb h2, h1]

/-- The units a fetch's copy adds to its semaphore, and a write-out's. -/
abbrev NX : ℕ := (bWin ![0, 0, 0] inb_S2x128x256_S1x64x256_0_0_0).view.dmaCredit
abbrev NB : ℕ := (b0 : Memref sig .scVector .vmem S16x128 .f32).view.dmaCredit
abbrev NO : ℕ := (oWin ![0, 0, 0] (fun a => by fin_cases a <;> decide)).view.dmaCredit

/-- A fetch's copy in flight on `sm`: it delivers rows `lo` to `lo + 64` of half `b` of the slab buffer at slab `s`, and
    the share of the input it reads through. -/
abbrev Fetching (sm : DmaSem sig) (b lo s : ℕ) (q : PosShare TreeShare) : sProp 𝕄 :=
  Flight EC (thr d L) (.dma sm) none NX
    iprop(((thr d L).loc cc0_scratch0 ↦[(box b lo (lo + 64) : Finset S2x128x256.Idx)]{fullShare} gx X s)
      ∗ ((thr d L).loc main_v1_scv ↦{q} X))

/-- A local copy on a cell at zero, restated at the contents it leaves. -/
theorem wp_copy {sp sp' : Space} {s : Shape} {e : EltTy} (src : Memref sig (thr d L).2.kind sp s e) (dst : Memref sig (thr d L).2.kind sp' s e)
    (sm : DmaSem sig) (N : ℕ) (hN : dst.view.amount (.dma sm) = N) (hN0 : 0 < N)
    {hsrc : src.view.WordExact} {hdst : dst.view.WordExact} {hsem : DmaTarget.Typed (nD := nD) sp (.dma sm) (.here dst)}
    (q : PosShare TreeShare) (fs : Buf (Elt F) (src.view.loc (thr d L))) (fd T : Buf (Elt F) (dst.view.loc (thr d L)))
    (hT : ∀ j, cast (congrArg (Elt F) dst.view.elt_eq.symm) (src.view.read (Elt F) fs j) = T (dst.view.emb j))
    {α : Type} {k : PUnit → Prog (TpuEff nD τ sig (Elt F) Λ₀ (thr d L).2) α} {Q : α → sProp 𝕄} :
    iprop((src.view.loc (thr d L) ↦[src.view.set]{q} fs) ∗ (dst.view.loc (thr d L) ↦[dst.view.set]{fullShare} fd) ∗ semVal ((thr d L), .dma sm) 0)
      ⊢ iprop((Flight EC (thr d L) (.dma sm) none N
                iprop((dst.view.loc (thr d L) ↦[dst.view.set]{fullShare} T) ∗ (src.view.loc (thr d L) ↦[src.view.set]{q} fs))
              -∗ wp frame (wpE (defs₀ (F := F)) 𝒱₀ (thr d L) none) Set.univ (k ⟨⟩) Q)
        -∗ wp frame (wpE (defs₀ (F := F)) 𝒱₀ (thr d L) none) Set.univ (.op (.enqueueDma src (.here dst) (.dma sm) hsrc hdst hsem) k) Q) := by
  have h := wp_dmaLocal (defs := defs₀ (F := F)) EC 𝒱₀ (thr d L) none (src := src) (via := .same) (dst := dst) (sm := .dma sm)
    (hsrc := hsrc) (hdst := hdst) (hsem := hsem) (k := k) (q := q) (fs := fs) (fd := fd) (Q := Q) none N hN hN0 (Finset.Subset.refl _)
  rw [pointsTo_congr (f := dst.view.write (Elt F) fd ((ReadAs.same : ReadAs (Elt F) s e s e).apply (src.view.read (Elt F) fs)) Finset.univ) (g := T)] at h
  · exact h
  · intro i hi
    obtain ⟨j, -, rfl⟩ := Finset.mem_map.mp hi
    rw [View.write_emb_of_mem _ _ (Finset.mem_univ j)]
    exact hT j

/-- Start a fetch. -/
theorem wp_fetch (sm : DmaSem sig) (b lo s : ℕ) (q : PosShare TreeShare)
    (off : Fin 3 → ℕ) (inb : ∀ a, off a + S1x64x256.size a ≤ S3136x128x256.size a)
    (offd : Fin 3 → ℕ) (inbd : ∀ a, offd a + S1x64x256.size a ≤ S2x128x256.size a)
    (h0 : off 0 = s) (h1 : off 1 = lo) (h2 : off 2 = 0) (g0 : offd 0 = b) (g1 : offd 1 = lo) (g2 : offd 2 = 0)
    {hsrc : (xWin off inb).view.WordExact} {hdst : (bWin offd inbd).view.WordExact}
    {hsem : DmaTarget.Typed (nD := nD) (p := (thr d L).2) .hbm (.dma sm) (.here (bWin offd inbd))}
    {fd : S2x128x256.Idx → Elt F .f32} {α : Type} {k : PUnit → Prog (TpuEff nD τ sig (Elt F) Λ₀ (thr d L).2) α} {Q : α → sProp 𝕄} :
    iprop(((thr d L).loc main_v1_scv ↦{q} X)
        ∗ ((thr d L).loc cc0_scratch0 ↦[(box b lo (lo + 64) : Finset S2x128x256.Idx)]{fullShare} fd) ∗ semVal ((thr d L), .dma sm) 0)
      ⊢ iprop((Fetching X d L sm b lo s q -∗ wp frame (wpE (defs₀ (F := F)) 𝒱₀ (thr d L) none) Set.univ (k ⟨⟩) Q)
        -∗ wp frame (wpE (defs₀ (F := F)) 𝒱₀ (thr d L) none) Set.univ
            (.op (.enqueueDma (p := (thr d L).2) (xWin off inb) (.here (bWin offd inbd)) (.dma sm) hsrc hdst hsem) k) Q) := by
  have eS := xWin_set off inb h2
  have eD := bWin_set offd inbd g2
  rw [h0, h1] at eS
  rw [g0, g1] at eD
  have hc := wp_copy d L (xWin off inb) (bWin offd inbd) sm NX rfl (View.dmaCredit_pos _ (show 0 < S64x256.numel by decide))
    (hsrc := hsrc) (hdst := hdst) (hsem := hsem) q X fd (gx X s) (k := k) (Q := Q) (by
      intro j
      refine (cast_eq _ _).trans ((View.read_apply _ _).trans ((cast_eq _ _).trans ?_))
      obtain ⟨e0, e1, e2⟩ := rect_emb (n0 := 3136) (n1 := 128) (n2 := 256) (m1 := 64) (m2 := 256) off inb squeezes_S1x64x256_S64x256.numel_eq j
      obtain ⟨-, d1, d2⟩ := rect_emb (n0 := 2) (n1 := 128) (n2 := 256) (m1 := 64) (m2 := 256) offd inbd squeezes_S1x64x256_S64x256.numel_eq j
      unfold gx
      congr 1
      funext a
      apply Fin.ext
      match a with
      | 0 => refine e0.trans ?_; have := inb 0; rw [h0] at this ⊢; exact (Nat.mod_eq_of_lt (show s < 3136 by change s + 1 ≤ 3136 at this; omega)).symm
      | 1 => refine e1.trans (Eq.trans ?_ d1.symm); rw [h1, g1]
      | 2 => refine e2.trans (Eq.trans ?_ d2.symm); rw [h2, g2])
  change iprop(((thr d L).loc main_v1_scv ↦[((xWin off inb).view.set : Finset S3136x128x256.Idx)]{q} X)
      ∗ ((thr d L).loc cc0_scratch0 ↦[((bWin offd inbd).view.set : Finset S2x128x256.Idx)]{fullShare} fd) ∗ semVal ((thr d L), .dma sm) 0)
    ⊢ iprop((Flight EC (thr d L) (.dma sm) none NX
        iprop(((thr d L).loc cc0_scratch0 ↦[((bWin offd inbd).view.set : Finset S2x128x256.Idx)]{fullShare} gx X s)
          ∗ ((thr d L).loc main_v1_scv ↦[((xWin off inb).view.set : Finset S3136x128x256.Idx)]{q} X)) -∗ _) -∗ _) at hc
  rw [eS, eD] at hc
  iintro ⟨Hx, Hb, Hv⟩ Hk
  ihave Hx := (pointsTo_split_subset (Finset.subset_univ _)).1 $$ Hx
  icases Hx with ⟨Hx, Hr⟩
  iapply hc $$ [Hx Hb Hv]
  · isplitl [Hx]; · iexact Hx
    isplitl [Hb] <;> iassumption
  iintro Hf
  iapply Hk
  ihave Hf := (Flight_frame (R := iprop((thr d L).loc main_v1_scv ↦[(Finset.univ \ box s lo (lo + 64) : Finset S3136x128x256.Idx)]{q} X))) $$ [Hf Hr]
  · isplitl [Hf] <;> iassumption
  iapply (Flight_mono EC (thr d L) ?hm) $$ Hf
  case hm =>
    iintro ⟨⟨Hb, Hx⟩, Hr⟩
    isplitl [Hb]; · iexact Hb
    iapply (pointsTo_split_subset (Finset.subset_univ _)).2
    isplitl [Hx] <;> iassumption

/-- A write-out in flight: it delivers row `s` of the result at its value, and the result buffer. -/
abbrev Flushing (ob : Ref sig .scVector) (g : Buf (Elt F) ((thr d L).loc ob)) (sm : DmaSem sig) (s : ℕ) : sProp 𝕄 :=
  Flight EC (thr d L) (.dma sm) none NO
    iprop(((thr d L).loc main_v2_scv ↦[(rows s (s + 1) : Finset S2240x16x128.Idx)]{fullShare} gout X I)
      ∗ ((thr d L).loc ob ↦{fullShare} g))

/-- What a write-out of slab `s`'s result leaves in the result array, elementwise. -/
theorem flush_val (s : ℕ) (off : Fin 3 → ℕ) (inb : ∀ a, off a + S1x16x128.size a ≤ S2240x16x128.size a)
    (h0 : off 0 = s) (h1 : off 1 = 0) (h2 : off 2 = 0) (j : S16x128.Idx) :
    go X I s j = gout X I ((oWin off inb).view.emb j) := by
  obtain ⟨e0, e1, e2⟩ := rect_emb (n0 := 2240) (n1 := 16) (n2 := 128) (m1 := 16) (m2 := 128) off inb squeezes_S1x16x128_S16x128.numel_eq j
  have i0 : (((oWin off inb).view.emb j : S2240x16x128.Idx) 0).val = s := e0.trans h0
  have i1 : ((oWin off inb).view.emb j : S2240x16x128.Idx) 1 = j 0 := Fin.ext (e1.trans (by rw [h1, Nat.zero_add]))
  have i2 : ((oWin off inb).view.emb j : S2240x16x128.Idx) 2 = j 1 := Fin.ext (e2.trans (by rw [h2, Nat.zero_add]))
  unfold go gout
  rw [i0, i1, i2]

/-- Start a write-out of result buffer 0. -/
theorem wp_flush0 (sm : DmaSem sig) (s : ℕ) (off : Fin 3 → ℕ) (inb : ∀ a, off a + S1x16x128.size a ≤ S2240x16x128.size a)
    (h0 : off 0 = s) (h1 : off 1 = 0) (h2 : off 2 = 0)
    {hsrc : (b0 : Memref sig .scVector .vmem S16x128 .f32).view.WordExact} {hdst : (oWin off inb).view.WordExact}
    {hsem : DmaTarget.Typed (nD := nD) (p := (thr d L).2) .vmem (.dma sm) (.here (oWin off inb))}
    {fd : S2240x16x128.Idx → Elt F .f32} {α : Type} {k : PUnit → Prog (TpuEff nD τ sig (Elt F) Λ₀ (thr d L).2) α} {Q : α → sProp 𝕄} :
    iprop(((thr d L).loc cc0_scratch1 ↦{fullShare} go X I s)
        ∗ ((thr d L).loc main_v2_scv ↦[(rows s (s + 1) : Finset S2240x16x128.Idx)]{fullShare} fd) ∗ semVal ((thr d L), .dma sm) 0)
      ⊢ iprop((Flushing X I d L cc0_scratch1 (go X I s) sm s -∗ wp frame (wpE (defs₀ (F := F)) 𝒱₀ (thr d L) none) Set.univ (k ⟨⟩) Q)
        -∗ wp frame (wpE (defs₀ (F := F)) 𝒱₀ (thr d L) none) Set.univ
            (.op (.enqueueDma (p := (thr d L).2) b0 (.here (oWin off inb)) (.dma sm) hsrc hdst hsem) k) Q) := by
  have eD := oWin_set off inb h1 h2
  rw [h0] at eD
  have hc := wp_copy d L b0 (oWin off inb) sm NO rfl (View.dmaCredit_pos _ (show 0 < S16x128.numel by decide))
    (hsrc := hsrc) (hdst := hdst) (hsem := hsem) fullShare (go X I s) fd (gout X I) (k := k) (Q := Q) (by
      intro j
      refine (cast_eq _ _).trans (Eq.trans ?_ (flush_val X I s off inb h0 h1 h2 j))
      exact congrFun (View.read_whole (Val := Elt F) cc0_scratch1 _) j)
  change iprop(((thr d L).loc cc0_scratch1 ↦[(View.whole (cc0_scratch1 : Ref sig .scVector)).set]{fullShare} go X I s)
      ∗ ((thr d L).loc main_v2_scv ↦[((oWin off inb).view.set : Finset S2240x16x128.Idx)]{fullShare} fd) ∗ semVal ((thr d L), .dma sm) 0)
    ⊢ iprop((Flight EC (thr d L) (.dma sm) none NO
        iprop(((thr d L).loc main_v2_scv ↦[((oWin off inb).view.set : Finset S2240x16x128.Idx)]{fullShare} gout X I)
          ∗ ((thr d L).loc cc0_scratch1 ↦[(View.whole (cc0_scratch1 : Ref sig .scVector)).set]{fullShare} go X I s)) -∗ _) -∗ _) at hc
  rw [View.set_whole, eD] at hc
  exact hc

/-- Start a write-out of result buffer 1. -/
theorem wp_flush1 (sm : DmaSem sig) (s : ℕ) (off : Fin 3 → ℕ) (inb : ∀ a, off a + S1x16x128.size a ≤ S2240x16x128.size a)
    (h0 : off 0 = s) (h1 : off 1 = 0) (h2 : off 2 = 0)
    {hsrc : (b1 : Memref sig .scVector .vmem S16x128 .f32).view.WordExact} {hdst : (oWin off inb).view.WordExact}
    {hsem : DmaTarget.Typed (nD := nD) (p := (thr d L).2) .vmem (.dma sm) (.here (oWin off inb))}
    {fd : S2240x16x128.Idx → Elt F .f32} {α : Type} {k : PUnit → Prog (TpuEff nD τ sig (Elt F) Λ₀ (thr d L).2) α} {Q : α → sProp 𝕄} :
    iprop(((thr d L).loc cc0_scratch2 ↦{fullShare} go X I s)
        ∗ ((thr d L).loc main_v2_scv ↦[(rows s (s + 1) : Finset S2240x16x128.Idx)]{fullShare} fd) ∗ semVal ((thr d L), .dma sm) 0)
      ⊢ iprop((Flushing X I d L cc0_scratch2 (go X I s) sm s -∗ wp frame (wpE (defs₀ (F := F)) 𝒱₀ (thr d L) none) Set.univ (k ⟨⟩) Q)
        -∗ wp frame (wpE (defs₀ (F := F)) 𝒱₀ (thr d L) none) Set.univ
            (.op (.enqueueDma (p := (thr d L).2) b1 (.here (oWin off inb)) (.dma sm) hsrc hdst hsem) k) Q) := by
  have eD := oWin_set off inb h1 h2
  rw [h0] at eD
  have hc := wp_copy d L b1 (oWin off inb) sm NO rfl (View.dmaCredit_pos _ (show 0 < S16x128.numel by decide))
    (hsrc := hsrc) (hdst := hdst) (hsem := hsem) fullShare (go X I s) fd (gout X I) (k := k) (Q := Q) (by
      intro j
      refine (cast_eq _ _).trans (Eq.trans ?_ (flush_val X I s off inb h0 h1 h2 j))
      exact congrFun (View.read_whole (Val := Elt F) cc0_scratch2 _) j)
  change iprop(((thr d L).loc cc0_scratch2 ↦[(View.whole (cc0_scratch2 : Ref sig .scVector)).set]{fullShare} go X I s)
      ∗ ((thr d L).loc main_v2_scv ↦[((oWin off inb).view.set : Finset S2240x16x128.Idx)]{fullShare} fd) ∗ semVal ((thr d L), .dma sm) 0)
    ⊢ iprop((Flight EC (thr d L) (.dma sm) none NO
        iprop(((thr d L).loc main_v2_scv ↦[((oWin off inb).view.set : Finset S2240x16x128.Idx)]{fullShare} gout X I)
          ∗ ((thr d L).loc cc0_scratch2 ↦[(View.whole (cc0_scratch2 : Ref sig .scVector)).set]{fullShare} go X I s)) -∗ _) -∗ _) at hc
  rw [View.set_whole, eD] at hc
  exact hc

/-! ## The waits -/

/-- What the tile owes, with its waits so far: each from before, or on a cell with no handshake. -/
abbrev Owed (O : CellTallies nD τ sig (HIx 1)) (W : Waits sig (HIx 1)) : sProp 𝕄 :=
  iprop(∃ W', ⌜∀ p ∈ W', p ∈ W ∨ p.2 = none⌝ ∗ owes (thr d L) O W')

/-- Wait for a copy: what it delivers, and its cell at zero again. -/
theorem wp_land (O : CellTallies nD τ sig (HIx 1)) (W : Waits sig (HIx 1)) (hO : ∀ g, O g none = 0)
    {sp sp' : Space} {s s' : Shape} {e e' : EltTy} {κ' : Kind} {sm : DmaSem sig}
    {srcw : Memref sig (thr d L).2.kind sp' s' e'} {dstw : Memref sig κ' sp s e} {hsrc : srcw.view.WordExact} {hdst : dstw.view.WordExact}
    {N : ℕ} (hN : dstw.view.dmaCredit = N) {A : sProp 𝕄}
    {α : Type} {k : PUnit → Prog (TpuEff nD τ sig (Elt F) Λ₀ (thr d L).2) α} {Q : α → sProp 𝕄} :
    iprop(levAts (K (F := F)).L (K (F := F)).lev ∗ Flight EC (thr d L) (.dma sm) none N A ∗ Owed d L O W)
      ⊢ iprop((iprop(A ∗ semVal ((thr d L), .dma sm) 0 ∗ Owed d L O W)
          -∗ wp frame (wpE (defs₀ (F := F)) 𝒱₀ (thr d L) none) Set.univ (k ⟨⟩) Q)
        -∗ wp frame (wpE (defs₀ (F := F)) 𝒱₀ (thr d L) none) Set.univ (.op (.waitDma2 sm srcw dstw hsrc hdst) k) Q) := by
  iintro ⟨#Hlv, Hf, %W', %hW', HO⟩ Hk
  iapply (wp_waitLocalO EC 𝒱₀ (thr d L) none none hN) $$ [Hf HO]
  · isplitl [Hf]; · iexact Hf
    isplitl [HO]; · iexact HO
    iapply ((K (F := F)).mayWait_none (SemLoc.dma sm) hO); iexact Hlv
  iintro ⟨HA, Hv, HO⟩
  iapply Hk
  isplitl [HA]; · iexact HA
  isplitl [Hv]; · iexact Hv
  iexists insert (SemLoc.dma sm, none) W'
  isplitr
  · ipureintro
    intro p hp
    rcases Finset.mem_insert.mp hp with h | h
    · exact .inr (by rw [h])
    · exact hW' p h
  iexact HO

end Cert.Proof.KI

end
-- ==== Proof.Trip.lean ====
/-
  One trip of the tile's main loop: two slabs fetched, computed and written out, the copies of the next and of the last
  trip in flight meanwhile.
-/
module

public import proofs.«01_k».proof.Proof.Row
public import proofs.«01_k».proof.Proof.Copy

@[expose] public section

noncomputable section

namespace Cert.Proof.KI

open Cert.KernelIdeal Cert.KernelIdeal.Gen
open Cert.Proof.Geo

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Transfers (Flight)
open Idealize.ShloMosaic.Tactic

variable [FloatOps F]

local notation "𝕄" => MT nD τ sig (HIx 1) (Elt F) ℕ UU ℕ

variable (X : S3136x128x256.Idx → Elt F .f32) (I : S16x16.Idx → BitVec 32) (G : S2240x16x128.Idx → Elt F .f32)
variable (d : Dev nD) (L : grid0.Coords)
variable (O : CellTallies nD τ sig (HIx 1)) (W : Waits sig (HIx 1)) (q : Fin 4 → PosShare TreeShare)

/-! ## The trip's conditions -/

theorem t1_lt (k : Fin k0_t1_loop.trips) : k.val < 35 := lt_of_lt_of_le k.isLt k0_t1_abs.2.1
theorem cond1_true : ∀ k : Fin k0_t1_loop.trips, k0_cond1 k = 1#1 := by decide +kernel
theorem cond2_iff : ∀ k : Fin k0_t1_loop.trips, k0_cond2 k = 1#1 ↔ k.val ≠ 0 := by decide +kernel
theorem cond3_iff : ∀ k : Fin k0_t1_loop.trips, k0_cond3 k = 1#1 ↔ k.val + 1 < 35 := by decide +kernel
theorem cond4_iff : ∀ k : Fin k0_t1_loop.trips, k0_cond4 k = 1#1 ↔ k.val ≠ 0 := by decide +kernel
theorem trips1 : k0_t1_loop.trips = 35 := by decide +kernel
theorem trips2 : k0_t2_loop.trips = 128 := by decide +kernel
theorem trips3 : k0_t3_loop.trips = 128 := by decide +kernel

/-! ## What the tile holds between trips -/

/-- A window of the slab buffer, at any contents. -/
abbrev winAny (b lo : ℕ) : sProp 𝕄 :=
  iprop(∃ f, (thr d L).loc cc0_scratch0 ↦[(box b lo (lo + 64) : Finset S2x128x256.Idx)]{fullShare} f)
/-- A cell of the tile at zero. -/
abbrev zero (sm : DmaSem sig) : sProp 𝕄 := semVal ((thr d L), .dma sm) 0
/-- A share of the input. -/
abbrev xTok (i : Fin 4) : sProp 𝕄 := iprop((thr d L).loc main_v1_scv ↦{q i} X)
/-- Rows of the result array that are done, and rows as they were. -/
abbrev doneRows (lo hi : ℕ) : sProp 𝕄 := iprop((thr d L).loc main_v2_scv ↦[(rows lo hi : Finset S2240x16x128.Idx)]{fullShare} gout X I)
abbrev todoRows (lo hi : ℕ) : sProp 𝕄 := iprop((thr d L).loc main_v2_scv ↦[(rows lo hi : Finset S2240x16x128.Idx)]{fullShare} G)
/-- A result buffer, at any contents. -/
abbrev buf0 : sProp 𝕄 := iprop(∃ f, (thr d L).loc cc0_scratch1 ↦{fullShare} f)
abbrev buf1 : sProp 𝕄 := iprop(∃ f, (thr d L).loc cc0_scratch2 ↦{fullShare} f)

/-- Half 0 with nothing in flight into it. -/
abbrev idle0 : sProp 𝕄 :=
  iprop(winAny d L 0 0 ∗ winAny d L 0 64 ∗ xTok X d L q 0 ∗ xTok X d L q 1 ∗ zero d L cc0_scratch4.sem ∗ zero d L cc0_scratch5.sem)
/-- Half 1 with nothing in flight into it. -/
abbrev idle1 : sProp 𝕄 :=
  iprop(winAny d L 1 0 ∗ winAny d L 1 64 ∗ xTok X d L q 2 ∗ xTok X d L q 3 ∗ zero d L cc0_scratch6.sem ∗ zero d L cc0_scratch7.sem)
/-- Before trip `p`: slab `2 p` in flight into half 0. -/
def in0 (p : ℕ) : sProp 𝕄 :=
  if p < 35 then iprop(Fetching X d L cc0_scratch4.sem 0 0 (s0 L + 2 * p) (q 0) ∗ Fetching X d L cc0_scratch5.sem 0 64 (s0 L + 2 * p) (q 1))
  else idle0 X d L q
/-- Before trip `p`: the write-out of the last trip's first slab in flight. -/
def out0 (p : ℕ) : sProp 𝕄 :=
  if p = 0 then iprop(buf0 d L ∗ zero d L cc0_scratch8.sem)
  else Flushing X I d L cc0_scratch1 (go X I (s0 L + (2 * p - 2))) cc0_scratch8.sem (s0 L + (2 * p - 2))
/-- Before trip `p`: the write-out of the last trip's second slab in flight. -/
def out1 (p : ℕ) : sProp 𝕄 :=
  if p = 0 then iprop(buf1 d L ∗ zero d L cc0_scratch9.sem)
  else Flushing X I d L cc0_scratch2 (go X I (s0 L + (2 * p - 1))) cc0_scratch9.sem (s0 L + (2 * p - 1))

/-- What the tile holds before trip `p` of its main loop. -/
def tripInv (p : ℕ) : sProp 𝕄 :=
  iprop(levAts (K (F := F)).L (K (F := F)).lev ∗ in0 X d L q p ∗ idle1 X d L q ∗ out0 X I d L p ∗ out1 X I d L p
    ∗ doneRows X I d L (s0 L) (s0 L + (2 * p - 2)) ∗ todoRows G d L (s0 L + 2 * p) (s0 L + 70) ∗ Owed d L O W)

/-! ## Pieces -/

theorem done_join {lo mid hi : ℕ} (h1 : lo ≤ mid) (h2 : mid ≤ hi) :
    iprop(doneRows X I d L lo mid ∗ doneRows X I d L mid hi) ⊢ (doneRows X I d L lo hi : sProp 𝕄) := by
  unfold doneRows
  rw [rows_union h1 h2]
  exact (pointsTo_union (rows_disjoint le_rfl)).2

theorem todo_split {lo mid hi : ℕ} (h1 : lo ≤ mid) (h2 : mid ≤ hi) :
    (todoRows G d L lo hi : sProp 𝕄) ⊢ iprop(todoRows G d L lo mid ∗ todoRows G d L mid hi) := by
  unfold todoRows
  rw [rows_union h1 h2]
  exact (pointsTo_union (rows_disjoint le_rfl)).1

/-- The two windows of a half make the half. -/
theorem half_join {b : ℕ} {f : S2x128x256.Idx → Elt F .f32} :
    iprop(((thr d L).loc cc0_scratch0 ↦[(box b 0 (0 + 64) : Finset S2x128x256.Idx)]{fullShare} f)
        ∗ ((thr d L).loc cc0_scratch0 ↦[(box b 64 (64 + 64) : Finset S2x128x256.Idx)]{fullShare} f))
      ⊣⊢ ((thr d L).loc cc0_scratch0 ↦[(box b 0 128 : Finset S2x128x256.Idx)]{fullShare} f : sProp 𝕄) := by
  rw [box_union (lo := 0) (mid := 0 + 64) (hi := 128) (by omega) (by omega)]
  exact (pointsTo_union box_disjoint).symm

/-- A half back as its two windows, at any contents. -/
theorem half_any {b : ℕ} {f : S2x128x256.Idx → Elt F .f32} :
    ((thr d L).loc cc0_scratch0 ↦[(box b 0 128 : Finset S2x128x256.Idx)]{fullShare} f : sProp 𝕄) ⊢ iprop(winAny d L b 0 ∗ winAny d L b 64) := by
  refine (half_join d L).2.trans ?_
  iintro ⟨H, H'⟩
  isplitl [H]
  · iexists f; iexact H
  · iexists f; iexact H'

/-- A result buffer all of whose columns are slab `s`'s is slab `s`'s result. -/
theorem full_cols {s : ℕ} {f : S16x128.Idx → Elt F .f32} (h : ∀ y : S16x128.Idx, (y 1).val < 128 → f y = go X I s y) : f = go X I s :=
  funext fun y => h y (y 1).isLt

/-! ## The trip -/

/-- The wait for the last trip's write-out of result buffer 0, when there was a trip. -/
theorem wait_out0 (hO : ∀ g, O g none = 0) (k : Fin k0_t1_loop.trips) {off : k0_cond2 k = 1#1 → Fin 3 → ℕ}
    {inb : ∀ h, ∀ a, off h a + S1x16x128.size a ≤ S2240x16x128.size a}
    {hsrc : (b0 : Memref sig .scVector .vmem S16x128 .f32).view.WordExact} {hdst : ∀ h, (oWin (off h) (inb h)).view.WordExact}
    {α : Type} {kk : Prog (TpuEff nD τ sig (Elt F) Λ₀ (thr d L).2) α} {Q : α → sProp 𝕄} (p : ℕ) (hp : k.val = p) :
    iprop(levAts (K (F := F)).L (K (F := F)).lev ∗ out0 X I d L p ∗ doneRows X I d L (s0 L) (s0 L + (2 * p - 2)) ∗ Owed d L O W)
      ⊢ iprop((iprop(buf0 d L ∗ zero d L cc0_scratch8.sem ∗ doneRows X I d L (s0 L) (s0 L + (2 * p - 1)) ∗ Owed d L O W)
          -∗ wp frame (wpE (defs₀ (F := F)) 𝒱₀ (thr d L) none) Set.univ kk Q)
        -∗ wp frame (wpE (defs₀ (F := F)) 𝒱₀ (thr d L) none) Set.univ
            ((if h : k0_cond2 k = 1#1 then
                .op (.waitDma2 (p := (thr d L).2) cc0_scratch8.sem b0 (oWin (off h) (inb h)) hsrc (hdst h)) fun _ => kk
              else kk : Prog (TpuEff nD τ sig (Elt F) Λ₀ (thr d L).2) α)) Q) := by
  by_cases h : p = 0
  · rw [dif_neg (fun hc => (cond2_iff k).mp hc (hp.trans h))]
    unfold out0
    rw [if_pos h, h]
    iintro ⟨-, ⟨Hb, Hv⟩, Hd, HO⟩ Hk
    iapply Hk
    isplitl [Hb]; · iexact Hb
    isplitl [Hv]; · iexact Hv
    isplitl [Hd] <;> iassumption
  · rw [dif_pos ((cond2_iff k).mpr (by omega))]
    unfold out0
    rw [if_neg h]
    iintro ⟨#Hlv, Hf, Hd, HO⟩ Hk
    iapply (wp_land d L O W hO rfl) $$ [Hf HO]
    · isplitr; · iexact Hlv
      isplitl [Hf] <;> iassumption
    iintro ⟨⟨Hr, Hb⟩, Hv, HO⟩
    iapply Hk
    isplitl [Hb]; · iexists _; iexact Hb
    isplitl [Hv]; · iexact Hv
    isplitl [Hd Hr]
    · rw [show s0 L + (2 * p - 1) = s0 L + (2 * p - 2) + 1 by omega]
      iapply (done_join X I d L (lo := s0 L) (mid := s0 L + (2 * p - 2)) (hi := s0 L + (2 * p - 2) + 1) (by omega) (by omega))
      isplitl [Hd]; · iexact Hd
      iexact Hr
    iexact HO

/-- The wait for the last trip's write-out of result buffer 1, when there was a trip. -/
theorem wait_out1 (hO : ∀ g, O g none = 0) (k : Fin k0_t1_loop.trips) {off : k0_cond4 k = 1#1 → Fin 3 → ℕ}
    {inb : ∀ h, ∀ a, off h a + S1x16x128.size a ≤ S2240x16x128.size a}
    {hsrc : (b1 : Memref sig .scVector .vmem S16x128 .f32).view.WordExact} {hdst : ∀ h, (oWin (off h) (inb h)).view.WordExact}
    {α : Type} {kk : Prog (TpuEff nD τ sig (Elt F) Λ₀ (thr d L).2) α} {Q : α → sProp 𝕄} (p : ℕ) (hp : k.val = p) :
    iprop(levAts (K (F := F)).L (K (F := F)).lev ∗ out1 X I d L p ∗ doneRows X I d L (s0 L) (s0 L + (2 * p - 1)) ∗ Owed d L O W)
      ⊢ iprop((iprop(buf1 d L ∗ zero d L cc0_scratch9.sem ∗ doneRows X I d L (s0 L) (s0 L + (2 * p)) ∗ Owed d L O W)
          -∗ wp frame (wpE (defs₀ (F := F)) 𝒱₀ (thr d L) none) Set.univ kk Q)
        -∗ wp frame (wpE (defs₀ (F := F)) 𝒱₀ (thr d L) none) Set.univ
            ((if h : k0_cond4 k = 1#1 then
                .op (.waitDma2 (p := (thr d L).2) cc0_scratch9.sem b1 (oWin (off h) (inb h)) hsrc (hdst h)) fun _ => kk
              else kk : Prog (TpuEff nD τ sig (Elt F) Λ₀ (thr d L).2) α)) Q) := by
  by_cases h : p = 0
  · rw [dif_neg (fun hc => (cond4_iff k).mp hc (hp.trans h))]
    unfold out1
    rw [if_pos h, h]
    iintro ⟨-, ⟨Hb, Hv⟩, Hd, HO⟩ Hk
    iapply Hk
    isplitl [Hb]; · iexact Hb
    isplitl [Hv]; · iexact Hv
    isplitl [Hd] <;> iassumption
  · rw [dif_pos ((cond4_iff k).mpr (by omega))]
    unfold out1
    rw [if_neg h]
    iintro ⟨#Hlv, Hf, Hd, HO⟩ Hk
    iapply (wp_land d L O W hO rfl) $$ [Hf HO]
    · isplitr; · iexact Hlv
      isplitl [Hf] <;> iassumption
    iintro ⟨⟨Hr, Hb⟩, Hv, HO⟩
    iapply Hk
    isplitl [Hb]; · iexists _; iexact Hb
    isplitl [Hv]; · iexact Hv
    isplitl [Hd Hr]
    · rw [show s0 L + (2 * p) = s0 L + (2 * p - 1) + 1 by omega]
      iapply (done_join X I d L (lo := s0 L) (mid := s0 L + (2 * p - 1)) (hi := s0 L + (2 * p - 1) + 1) (by omega) (by omega))
      isplitl [Hd]; · iexact Hd
      iexact Hr
    iexact HO

/-- The fetch of the next trip's first slab into half 0, when there is a next trip. -/
theorem fetch_next (k : Fin k0_t1_loop.trips)
    {hsrc : ∀ h, (xWin (k0_off11 L k) (k0_off11_inb L k h)).view.WordExact} {hdst : (bWin ![0, 0, 0] inb_S2x128x256_S1x64x256_0_0_0).view.WordExact}
    {hsem : DmaTarget.Typed (nD := nD) (p := (thr d L).2) .hbm (.dma cc0_scratch4.sem) (.here (bWin ![0, 0, 0] inb_S2x128x256_S1x64x256_0_0_0))}
    {hsrc' : ∀ h, (xWin (k0_off12 L k) (k0_off12_inb L k h)).view.WordExact} {hdst' : (bWin ![0, 64, 0] inb_S2x128x256_S1x64x256_0_64_0).view.WordExact}
    {hsem' : DmaTarget.Typed (nD := nD) (p := (thr d L).2) .hbm (.dma cc0_scratch5.sem) (.here (bWin ![0, 64, 0] inb_S2x128x256_S1x64x256_0_64_0))}
    {α : Type} {kk : Prog (TpuEff nD τ sig (Elt F) Λ₀ (thr d L).2) α} {Q : α → sProp 𝕄} :
    idle0 X d L q
      ⊢ iprop((in0 X d L q (k.val + 1) -∗ wp frame (wpE (defs₀ (F := F)) 𝒱₀ (thr d L) none) Set.univ kk Q)
        -∗ wp frame (wpE (defs₀ (F := F)) 𝒱₀ (thr d L) none) Set.univ
            ((if h : k0_cond3 k = 1#1 then
                .op (.enqueueDma (p := (thr d L).2) (xWin (k0_off11 L k) (k0_off11_inb L k h)) (.here (bWin ![0, 0, 0] inb_S2x128x256_S1x64x256_0_0_0)) (.dma cc0_scratch4.sem) (hsrc h) hdst hsem) fun _ =>
                .op (.enqueueDma (p := (thr d L).2) (xWin (k0_off12 L k) (k0_off12_inb L k h)) (.here (bWin ![0, 64, 0] inb_S2x128x256_S1x64x256_0_64_0)) (.dma cc0_scratch5.sem) (hsrc' h) hdst' hsem') fun _ => kk
              else kk : Prog (TpuEff nD τ sig (Elt F) Λ₀ (thr d L).2) α)) Q) := by
  have e11 := k0_off11_eq L k
  have e12 := k0_off12_eq L k
  unfold in0
  by_cases h : k.val + 1 < 35
  · rw [dif_pos ((cond3_iff k).mpr h), if_pos h]
    iintro ⟨⟨%f, Hb⟩, ⟨%f', Hb'⟩, Hx, Hx', Hv, Hv'⟩ Hk
    iapply (wp_fetch X d L cc0_scratch4.sem 0 0 (s0 L + 2 * (k.val + 1)) (q 0) _ _ _ _ (congrFun e11 0) (congrFun e11 1) (congrFun e11 2) rfl rfl rfl) $$ [Hx Hb Hv]
    · isplitl [Hx]; · iexact Hx
      isplitl [Hb] <;> iassumption
    iintro Hf
    iapply (wp_fetch X d L cc0_scratch5.sem 0 64 (s0 L + 2 * (k.val + 1)) (q 1) _ _ _ _ (congrFun e12 0) (congrFun e12 1) (congrFun e12 2) rfl rfl rfl) $$ [Hx' Hb' Hv']
    · isplitl [Hx']; · iexact Hx'
      isplitl [Hb'] <;> iassumption
    iintro Hf'
    iapply Hk
    isplitl [Hf] <;> iassumption
  · rw [dif_neg (fun hc => h ((cond3_iff k).mp hc)), if_neg h]
    iintro H Hk
    iapply Hk $$ H

/-- The first part of a trip: its first slab arrives, its second is fetched, result buffer 0 is free again. -/
theorem part3_wp (hO : ∀ g, O g none = 0) (v2 : BitVec 32) (k : Fin k0_t1_loop.trips)
    {α : Type} {kk : (Σ' (_ : BitVec 32) (_ : BitVec 32) (_ : BitVec 32), BitVec 32) → Prog (TpuEff nD τ sig (Elt F) Λ₀ (thr d L).2) α} {Q : α → sProp 𝕄} :
    iprop(levAts (K (F := F)).L (K (F := F)).lev ∗ in0 X d L q k.val ∗ idle1 X d L q ∗ out0 X I d L k.val
        ∗ doneRows X I d L (s0 L) (s0 L + (2 * k.val - 2)) ∗ Owed d L O W)
      ⊢ iprop((iprop(((thr d L).loc cc0_scratch0 ↦[(box 0 0 128 : Finset S2x128x256.Idx)]{fullShare} gx X (s0 L + 2 * k.val))
            ∗ xTok X d L q 0 ∗ xTok X d L q 1 ∗ zero d L cc0_scratch4.sem ∗ zero d L cc0_scratch5.sem
            ∗ Fetching X d L cc0_scratch6.sem 1 0 (s0 L + 2 * k.val + 1) (q 2) ∗ Fetching X d L cc0_scratch7.sem 1 64 (s0 L + 2 * k.val + 1) (q 3)
            ∗ buf0 d L ∗ zero d L cc0_scratch8.sem ∗ doneRows X I d L (s0 L) (s0 L + (2 * k.val - 1)) ∗ Owed d L O W)
          -∗ ∀ u1 u2, wp frame (wpE (defs₀ (F := F)) 𝒱₀ (thr d L) none) Set.univ (kk ⟨u1, u2, 0#32, 128#32⟩) Q)
        -∗ wp frame (wpE (defs₀ (F := F)) 𝒱₀ (thr d L) none) Set.univ
            (k0_part3 (F := F) L xV (Memref.isWhole_whole _) iV (Memref.isWhole_whole _) oV (Memref.isWhole_whole _) bX (Memref.isWhole_whole _) b0 (Memref.isWhole_whole _) b1 (Memref.isWhole_whole _) bI (Memref.isWhole_whole _) cc0_scratch4 cc0_scratch5 cc0_scratch6 cc0_scratch7 cc0_scratch8 cc0_scratch9 cc0_scoped0 v2 0#32 1#32 k >>= kk) Q) := by
  have hk := t1_lt k
  have e5 := k0_off5_eq L k
  have e6 := k0_off6_eq L k
  simp only [k0_part3_eq_skeleton]
  unfold k0_part3_skel
  simp only [dif_pos (cond1_true k)]
  simp only [Prog.lift, Prog.bind_assoc, Prog.bind_op, Prog.bind_ret, Prog.pure_eq_ret]
  rw [show in0 X d L q k.val = _ from if_pos hk]
  iintro ⟨#Hlv, ⟨Hf, Hf'⟩, ⟨⟨%g, Hc⟩, ⟨%g', Hc'⟩, Hx2, Hx3, Hv2, Hv3⟩, Ho0, Hd, HO⟩ Hk
  iapply (wp_land d L O W hO rfl) $$ [Hf HO]
  · isplitr; · iexact Hlv
    isplitl [Hf] <;> iassumption
  iintro ⟨⟨Hb, Hx0⟩, Hv0, HO⟩
  iapply (wp_land d L O W hO rfl) $$ [Hf' HO]
  · isplitr; · iexact Hlv
    isplitl [Hf'] <;> iassumption
  iintro ⟨⟨Hb', Hx1⟩, Hv1, HO⟩
  iapply (wp_fetch X d L cc0_scratch6.sem 1 0 (s0 L + 2 * k.val + 1) (q 2) _ _ _ _ (congrFun e5 0) (congrFun e5 1) (congrFun e5 2) rfl rfl rfl) $$ [Hx2 Hc Hv2]
  · isplitl [Hx2]; · iexact Hx2
    isplitl [Hc] <;> iassumption
  iintro Hf2
  iapply (wp_fetch X d L cc0_scratch7.sem 1 64 (s0 L + 2 * k.val + 1) (q 3) _ _ _ _ (congrFun e6 0) (congrFun e6 1) (congrFun e6 2) rfl rfl rfl) $$ [Hx3 Hc' Hv3]
  · isplitl [Hx3]; · iexact Hx3
    isplitl [Hc'] <;> iassumption
  iintro Hf3
  rw [wp_bind]
  iapply (wait_out0 X I d L O W hO k k.val rfl) $$ [Ho0 Hd HO]
  · isplitr; · iexact Hlv
    isplitl [Ho0]; · iexact Ho0
    isplitl [Hd] <;> iassumption
  iintro ⟨Hr0, Hv8, Hd, HO⟩
  rw [wp_ret]
  imodintro
  ihave Hb := (half_join d L).1 $$ [Hb Hb']
  · isplitl [Hb] <;> iassumption
  iapply Hk $$ [Hb Hx0 Hx1 Hv0 Hv1 Hf2 Hf3 Hr0 Hv8 Hd HO]
  isplitl [Hb]; · iexact Hb
  isplitl [Hx0]; · iexact Hx0
  isplitl [Hx1]; · iexact Hx1
  isplitl [Hv0]; · iexact Hv0
  isplitl [Hv1]; · iexact Hv1
  isplitl [Hf2]; · iexact Hf2
  isplitl [Hf3]; · iexact Hf3
  isplitl [Hr0]; · iexact Hr0
  isplitl [Hv8]; · iexact Hv8
  isplitl [Hd] <;> iassumption

/-- The second part of a trip: its first slab is computed and its write-out started, its second slab arrives. -/
theorem part4_wp (hI : ∀ j, (I j).toNat < 256) (hO : ∀ g, O g none = 0) (v2 : BitVec 32) (k : Fin k0_t1_loop.trips) (u1 u2 : BitVec 32)
    {α : Type} {kk : (Σ' (_ : BitVec 32), BitVec 1) → Prog (TpuEff nD τ sig (Elt F) Λ₀ (thr d L).2) α} {Q : α → sProp 𝕄} :
    iprop(levAts (K (F := F)).L (K (F := F)).lev
        ∗ ((thr d L).loc cc0_scratch0 ↦[(box 0 0 128 : Finset S2x128x256.Idx)]{fullShare} gx X (s0 L + 2 * k.val))
        ∗ Fetching X d L cc0_scratch6.sem 1 0 (s0 L + 2 * k.val + 1) (q 2) ∗ Fetching X d L cc0_scratch7.sem 1 64 (s0 L + 2 * k.val + 1) (q 3)
        ∗ buf0 d L ∗ zero d L cc0_scratch8.sem ∗ todoRows G d L (s0 L + 2 * k.val) (s0 L + 2 * k.val + 1) ∗ Owed d L O W)
      ⊢ iprop((iprop(winAny d L 0 0 ∗ winAny d L 0 64
            ∗ ((thr d L).loc cc0_scratch0 ↦[(box 1 0 128 : Finset S2x128x256.Idx)]{fullShare} gx X (s0 L + 2 * k.val + 1))
            ∗ xTok X d L q 2 ∗ xTok X d L q 3 ∗ zero d L cc0_scratch6.sem ∗ zero d L cc0_scratch7.sem
            ∗ Flushing X I d L cc0_scratch1 (go X I (s0 L + 2 * k.val)) cc0_scratch8.sem (s0 L + 2 * k.val) ∗ Owed d L O W)
          -∗ ∀ w1 w2, wp frame (wpE (defs₀ (F := F)) 𝒱₀ (thr d L) none) Set.univ (kk ⟨w1, w2⟩) Q)
        -∗ wp frame (wpE (defs₀ (F := F)) 𝒱₀ (thr d L) none) Set.univ
            (k0_part4 (F := F) L xV (Memref.isWhole_whole _) iV (Memref.isWhole_whole _) oV (Memref.isWhole_whole _) bX (Memref.isWhole_whole _) b0 (Memref.isWhole_whole _) b1 (Memref.isWhole_whole _) bI (Memref.isWhole_whole _) cc0_scratch4 cc0_scratch5 cc0_scratch6 cc0_scratch7 cc0_scratch8 cc0_scratch9 cc0_scoped0 v2 (ivec (F := F) I 0) (ivec (F := F) I 1) (ivec (F := F) I 2) (ivec (F := F) I 3) (ivec (F := F) I 4) (ivec (F := F) I 5) (ivec (F := F) I 6) (ivec (F := F) I 7) (ivec (F := F) I 8) (ivec (F := F) I 9) (ivec (F := F) I 10) (ivec (F := F) I 11) (ivec (F := F) I 12) (ivec (F := F) I 13) (ivec (F := F) I 14) (ivec (F := F) I 15) lanes k u1 u2 0#32 128#32 >>= kk) Q) := by
  have e8 := k0_off8_eq L k 0
  simp only [k0_part4_eq_skeleton]
  unfold k0_part4_skel
  simp only [Prog.lift, Prog.bind_assoc, Prog.bind_op, Prog.bind_ret, Prog.pure_eq_ret]
  iintro ⟨#Hlv, Hb, Hf2, Hf3, ⟨%r, Hr⟩, Hv8, Ht, HO⟩ Hk
  sl_for (fun r _ => rowInv0 X I d L (s0 L + 2 * k.val) r) $$ [Hb Hr]
  case region => intro rr _; exact row0_wp X I d L hI _ _ _ _ _ _ _ _ _ _ _ _ rr
  · unfold rowInv0
    isplitl [Hb]; · iexact Hb
    iexists r
    isplitr; · ipureintro; exact fun y hy => absurd hy (Nat.not_lt_zero _)
    iexact Hr
  unfold rowInv0
  iintro %acc ⟨Hb, %r', %hr', Hr⟩
  obtain rfl := full_cols X I (fun y hy => hr' y (lt_of_lt_of_eq hy trips2.symm))
  iapply (wp_flush0 X I d L cc0_scratch8.sem (s0 L + 2 * k.val) _ _ (congrFun e8 0) (congrFun e8 1) (congrFun e8 2)) $$ [Hr Ht Hv8]
  · isplitl [Hr]; · iexact Hr
    isplitl [Ht] <;> iassumption
  iintro Hf8
  iapply (wp_land d L O W hO rfl) $$ [Hf2 HO]
  · isplitr; · iexact Hlv
    isplitl [Hf2] <;> iassumption
  iintro ⟨⟨Hc, Hx2⟩, Hv6, HO⟩
  iapply (wp_land d L O W hO rfl) $$ [Hf3 HO]
  · isplitr; · iexact Hlv
    isplitl [Hf3] <;> iassumption
  iintro ⟨⟨Hc', Hx3⟩, Hv7, HO⟩
  ihave Hc := (half_join d L).1 $$ [Hc Hc']
  · isplitl [Hc] <;> iassumption
  ihave Hb := (half_any d L) $$ Hb
  icases Hb with ⟨Hb, Hb'⟩
  iapply Hk $$ [Hb Hb' Hc Hx2 Hx3 Hv6 Hv7 Hf8 HO]
  isplitl [Hb]; · iexact Hb
  isplitl [Hb']; · iexact Hb'
  isplitl [Hc]; · iexact Hc
  isplitl [Hx2]; · iexact Hx2
  isplitl [Hx3]; · iexact Hx3
  isplitl [Hv6]; · iexact Hv6
  isplitl [Hv7]; · iexact Hv7
  isplitl [Hf8] <;> iassumption

/-- A trip of the main loop. -/
theorem trip_wp (hI : ∀ j, (I j).toNat < 256) (hO : ∀ g, O g none = 0) (v2 : BitVec 32) (k : Fin k0_t1_loop.trips) :
    tripInv X I G d L O W q k.val
      ⊢ wp frame (wpE (defs₀ (F := F)) 𝒱₀ (thr d L) none) Set.univ
          (k0_t1_body (F := F) L xV (Memref.isWhole_whole _) iV (Memref.isWhole_whole _) oV (Memref.isWhole_whole _) bX (Memref.isWhole_whole _) b0 (Memref.isWhole_whole _) b1 (Memref.isWhole_whole _) bI (Memref.isWhole_whole _) cc0_scratch4 cc0_scratch5 cc0_scratch6 cc0_scratch7 cc0_scratch8 cc0_scratch9 cc0_scoped0 v2 (ivec (F := F) I 0) (ivec (F := F) I 1) (ivec (F := F) I 2) (ivec (F := F) I 3) (ivec (F := F) I 4) (ivec (F := F) I 5) (ivec (F := F) I 6) (ivec (F := F) I 7) (ivec (F := F) I 8) (ivec (F := F) I 9) (ivec (F := F) I 10) (ivec (F := F) I 11) (ivec (F := F) I 12) (ivec (F := F) I 13) (ivec (F := F) I 14) (ivec (F := F) I 15) lanes k ())
          fun _ => tripInv X I G d L O W q (k.val + 1) := by
  have hk := t1_lt k
  have e8 := k0_off8_eq L k 1
  unfold k0_t1_body
  unfold tripInv
  iintro ⟨#Hlv, Hi0, Hi1, Ho0, Ho1, Hd, Ht, HO⟩
  ihave Ht := (todo_split G d L (lo := s0 L + 2 * k.val) (mid := s0 L + 2 * k.val + 1) (hi := s0 L + 70) (by omega) (by omega)) $$ Ht
  icases Ht with ⟨Ht0, Ht⟩
  ihave Ht := (todo_split G d L (lo := s0 L + 2 * k.val + 1) (mid := s0 L + 2 * k.val + 1 + 1) (hi := s0 L + 70) (by omega) (by omega)) $$ Ht
  icases Ht with ⟨Ht1, Ht⟩
  iapply (part3_wp X I d L O W q hO v2 k) $$ [Hi0 Hi1 Ho0 Hd HO]
  · isplitr; · iexact Hlv
    isplitl [Hi0]; · iexact Hi0
    isplitl [Hi1]; · iexact Hi1
    isplitl [Ho0]; · iexact Ho0
    isplitl [Hd] <;> iassumption
  iintro ⟨Hb, Hx0, Hx1, Hv0, Hv1, Hf2, Hf3, Hr0, Hv8, Hd, HO⟩ %u1 %u2
  iapply (part4_wp X I G d L O W q hI hO v2 k u1 u2) $$ [Hb Hf2 Hf3 Hr0 Hv8 Ht0 HO]
  · isplitr; · iexact Hlv
    isplitl [Hb]; · iexact Hb
    isplitl [Hf2]; · iexact Hf2
    isplitl [Hf3]; · iexact Hf3
    isplitl [Hr0]; · iexact Hr0
    isplitl [Hv8]; · iexact Hv8
    isplitl [Ht0] <;> iassumption
  iintro ⟨Hb, Hb', Hc, Hx2, Hx3, Hv2, Hv3, Hf8, HO⟩ %w1 %w2
  simp only [Prog.lift, Prog.bind_assoc, Prog.bind_op, Prog.bind_ret, Prog.pure_eq_ret]
  iapply (fetch_next X d L q k) $$ [Hb Hb' Hx0 Hx1 Hv0 Hv1]
  · isplitl [Hb]; · iexact Hb
    isplitl [Hb']; · iexact Hb'
    isplitl [Hx0]; · iexact Hx0
    isplitl [Hx1]; · iexact Hx1
    isplitl [Hv0] <;> iassumption
  iintro Hi0
  iapply (wait_out1 X I d L O W hO k k.val rfl) $$ [Ho1 Hd HO]
  · isplitr; · iexact Hlv
    isplitl [Ho1]; · iexact Ho1
    isplitl [Hd] <;> iassumption
  iintro ⟨⟨%r, Hr⟩, Hv9, Hd, HO⟩
  sl_for (fun r _ => rowInv1 X I d L (s0 L + 2 * k.val + 1) r) $$ [Hc Hr]
  case region => intro rr _; exact row1_wp X I d L hI _ _ _ _ _ _ _ _ rr
  · unfold rowInv1
    isplitl [Hc]; · iexact Hc
    iexists r
    isplitr; · ipureintro; exact fun y hy => absurd hy (Nat.not_lt_zero _)
    iexact Hr
  unfold rowInv1
  iintro %acc ⟨Hc, %r', %hr', Hr⟩
  obtain rfl := full_cols X I (fun y hy => hr' y (lt_of_lt_of_eq hy trips3.symm))
  iapply (wp_flush1 X I d L cc0_scratch9.sem (s0 L + 2 * k.val + 1) _ _ (congrFun e8 0) (congrFun e8 1) (congrFun e8 2)) $$ [Hr Ht1 Hv9]
  · isplitl [Hr]; · iexact Hr
    isplitl [Ht1] <;> iassumption
  iintro Hf9
  rw [wp_ret]
  imodintro
  ihave Hc := (half_any d L) $$ Hc
  icases Hc with ⟨Hc, Hc'⟩
  isplitr; · iexact Hlv
  isplitl [Hi0]; · iexact Hi0
  isplitl [Hc Hc' Hx2 Hx3 Hv2 Hv3]
  · isplitl [Hc]; · iexact Hc
    isplitl [Hc']; · iexact Hc'
    isplitl [Hx2]; · iexact Hx2
    isplitl [Hx3]; · iexact Hx3
    isplitl [Hv2] <;> iassumption
  isplitl [Hf8]
  · unfold out0
    rw [if_neg (Nat.succ_ne_zero _), show 2 * (k.val + 1) - 2 = 2 * k.val by omega]
    iexact Hf8
  isplitl [Hf9]
  · unfold out1
    rw [if_neg (Nat.succ_ne_zero _), show 2 * (k.val + 1) - 1 = 2 * k.val + 1 by omega]
    iexact Hf9
  isplitl [Hd]
  · rw [show 2 * (k.val + 1) - 2 = 2 * k.val by omega]
    iexact Hd
  isplitl [Ht]
  · iexact Ht
  iexact HO

end Cert.Proof.KI

end
-- ==== Proof.Tile.lean ====
/-
  The tile's whole task: the index table fetched and read, the main loop, the last two waits.
-/
module

public import proofs.«01_k».proof.Proof.Trip

@[expose] public section

noncomputable section

namespace Cert.Proof.KI

open Cert.KernelIdeal Cert.KernelIdeal.Gen
open Cert.Proof.Geo

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.Transfers (Flight)
open Idealize.ShloMosaic.Tactic

variable [FloatOps F]

local notation "𝕄" => MT nD τ sig (HIx 1) (Elt F) ℕ UU ℕ

variable (X : S3136x128x256.Idx → Elt F .f32) (I : S16x16.Idx → BitVec 32) (G : S2240x16x128.Idx → Elt F .f32)
variable (d : Dev nD) (L : grid0.Coords)
variable (O : CellTallies nD τ sig (HIx 1)) (W : Waits sig (HIx 1))

/-! ## The tile's own cells and buffers -/

/-- The seven cells the task names, out of the tile's own. -/
abbrev restCells : Finset (GSem nD τ sig) :=
  (((((((ownCells (thr d L)).erase ((thr d L), .dma cc0_scoped0.sem)).erase ((thr d L), .dma cc0_scratch4.sem)).erase ((thr d L), .dma cc0_scratch5.sem)).erase ((thr d L), .dma cc0_scratch6.sem)).erase ((thr d L), .dma cc0_scratch7.sem)).erase ((thr d L), .dma cc0_scratch8.sem)).erase ((thr d L), .dma cc0_scratch9.sem)
theorem ownSems0_V :
    (ownSems0 (thr d L) : sProp 𝕄)
      = iprop(zero d L cc0_scoped0.sem ∗ zero d L cc0_scratch4.sem ∗ zero d L cc0_scratch5.sem ∗ zero d L cc0_scratch6.sem ∗ zero d L cc0_scratch7.sem ∗ zero d L cc0_scratch8.sem ∗ zero d L cc0_scratch9.sem
          ∗ bigSep (restCells d L) fun g => semVal g 0) := by
  unfold SparseCore.Cfg.ownSems0
  have hm : ∀ m : DmaSem sig, (SemLoc.dma m : SemLoc sig).isScoped .scVector = true → ((thr d L, SemLoc.dma m) : GSem nD τ sig) ∈ ownCells (thr d L) :=
    fun m h => (mem_ownCells (g := (thr d L, SemLoc.dma m))).mpr ⟨rfl, h⟩
  have hne : ∀ m m' : DmaSem sig, m ≠ m' → ((thr d L, SemLoc.dma m) : GSem nD τ sig) ≠ (thr d L, SemLoc.dma m') :=
    fun m m' h e => h (SemLoc.dma.inj (Prod.mk.inj e).2)
  rw [SparseCore.bigSep_erase' (hm cc0_scoped0.sem (by decide)),
    SparseCore.bigSep_erase' (Finset.mem_erase.mpr ⟨hne cc0_scratch4.sem cc0_scoped0.sem (by decide), hm cc0_scratch4.sem (by decide)⟩),
    SparseCore.bigSep_erase' (Finset.mem_erase.mpr ⟨hne cc0_scratch5.sem cc0_scratch4.sem (by decide), Finset.mem_erase.mpr ⟨hne cc0_scratch5.sem cc0_scoped0.sem (by decide), hm cc0_scratch5.sem (by decide)⟩⟩),
    SparseCore.bigSep_erase' (Finset.mem_erase.mpr ⟨hne cc0_scratch6.sem cc0_scratch5.sem (by decide), Finset.mem_erase.mpr ⟨hne cc0_scratch6.sem cc0_scratch4.sem (by decide), Finset.mem_erase.mpr ⟨hne cc0_scratch6.sem cc0_scoped0.sem (by decide), hm cc0_scratch6.sem (by decide)⟩⟩⟩),
    SparseCore.bigSep_erase' (Finset.mem_erase.mpr ⟨hne cc0_scratch7.sem cc0_scratch6.sem (by decide), Finset.mem_erase.mpr ⟨hne cc0_scratch7.sem cc0_scratch5.sem (by decide), Finset.mem_erase.mpr ⟨hne cc0_scratch7.sem cc0_scratch4.sem (by decide), Finset.mem_erase.mpr ⟨hne cc0_scratch7.sem cc0_scoped0.sem (by decide), hm cc0_scratch7.sem (by decide)⟩⟩⟩⟩),
    SparseCore.bigSep_erase' (Finset.mem_erase.mpr ⟨hne cc0_scratch8.sem cc0_scratch7.sem (by decide), Finset.mem_erase.mpr ⟨hne cc0_scratch8.sem cc0_scratch6.sem (by decide), Finset.mem_erase.mpr ⟨hne cc0_scratch8.sem cc0_scratch5.sem (by decide), Finset.mem_erase.mpr ⟨hne cc0_scratch8.sem cc0_scratch4.sem (by decide), Finset.mem_erase.mpr ⟨hne cc0_scratch8.sem cc0_scoped0.sem (by decide), hm cc0_scratch8.sem (by decide)⟩⟩⟩⟩⟩),
    SparseCore.bigSep_erase' (Finset.mem_erase.mpr ⟨hne cc0_scratch9.sem cc0_scratch8.sem (by decide), Finset.mem_erase.mpr ⟨hne cc0_scratch9.sem cc0_scratch7.sem (by decide), Finset.mem_erase.mpr ⟨hne cc0_scratch9.sem cc0_scratch6.sem (by decide), Finset.mem_erase.mpr ⟨hne cc0_scratch9.sem cc0_scratch5.sem (by decide), Finset.mem_erase.mpr ⟨hne cc0_scratch9.sem cc0_scratch4.sem (by decide), Finset.mem_erase.mpr ⟨hne cc0_scratch9.sem cc0_scoped0.sem (by decide), hm cc0_scratch9.sem (by decide)⟩⟩⟩⟩⟩⟩)]

/-- The four scratch buffers, out of the tile's own. -/
abbrev restRefs : Finset (DevRef τ sig) :=
  ((((ownRefs (τ := τ) (sig := sig) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)
theorem ownBufs_V :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (restRefs L) fun b => iprop(∃ f, ((d, b) : Loc nD τ sig) ↦{fullShare} f)) := by
  unfold SparseCore.Cfg.ownBufs
  have hm : ∀ b : Ref sig .scVector, ((Proc.scVector (cV L) (jV L)).devRef b).owner = .proc (.scVector (cV L) (jV L)) → (Proc.scVector (cV L) (jV L)).devRef b ∈ ownRefs (τ := τ) (.scVector (cV L) (jV L)) :=
    fun b h => SparseCore.Cfg.mem_ownRefs_of_owner (p := Proc.scVector (cV L) (jV L)) (b := (Proc.scVector (cV L) (jV L)).devRef b) h
  have hne : ∀ b b' : Ref sig .scVector, b ≠ b' → (Proc.scVector (cV L) (jV L)).devRef b ≠ (Proc.scVector (cV L) (jV L)).devRef b' :=
    fun b b' h e => h (Proc.devRef_injective _ e)
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide), Finset.mem_erase.mpr ⟨hne cc0_scratch2 cc0_scratch0 (by decide), hm cc0_scratch2 rfl⟩⟩),
    SparseCore.bigSep_erase' (Finset.mem_erase.mpr ⟨hne cc0_scratch3 cc0_scratch2 (by decide), Finset.mem_erase.mpr ⟨hne cc0_scratch3 cc0_scratch1 (by decide), Finset.mem_erase.mpr ⟨hne cc0_scratch3 cc0_scratch0 (by decide), hm cc0_scratch3 rfl⟩⟩⟩)]

/-! ## The index table -/

/-- Row `k` of the table, as a load of it sees it. -/
def idxRow (k : Fin 16) : Vec F S1x16 .i32 := fun x => I (ix2 k (x 1))

theorem cast_row (k : Fin 16) : (shapeCast S16 (idxRow (F := F) I k) shapeCasts_S1x16_S16 : Vec F S16 .i32) = ivec I k := by
  funext x
  refine (shapeCast_apply _ _ x (ix2 (0 : Fin 1) (x 0)) ?_).trans rfl
  rw [Shape.rowMajor_val_two, Shape.rowMajor_val_one]
  simp

/-- One load of a row of the fetched table. -/
theorem wp_idxLoad (r : ℕ) (hr : r < 16) {inb : ∀ a, (![r, 0] : Fin 2 → ℕ) a + S1x16.size a ≤ S16x16.size a}
    {hl : bI.view.LoadsAt (Rect.unit (s := S16x16) ![r, 0] S1x16.size inb).toLoadRect}
    {α : Type} {kk : Vec F S1x16 .i32 → Prog (TpuEff nD τ sig (Elt F) Λ₀ (thr d L).2) α} {Q : α → sProp 𝕄} :
    ((thr d L).loc cc0_scratch3 ↦{fullShare} I)
      ⊢ iprop((((thr d L).loc cc0_scratch3 ↦{fullShare} I)
          -∗ wp frame (wpE (defs₀ (F := F)) 𝒱₀ (thr d L) none) Set.univ (kk (idxRow I ⟨r, hr⟩)) Q)
        -∗ wp frame (wpE (defs₀ (F := F)) 𝒱₀ (thr d L) none) Set.univ
            (.op (.load bI (Rect.unit (s := S16x16) ![r, 0] S1x16.size inb).toLoadRect hl) kk) Q) := by
  have hv : bI.view.readAt (Elt F) (Rect.unit (s := S16x16) ![r, 0] S1x16.size inb).toLoadRect (I : S16x16.Idx → Elt F .i32) = idxRow I ⟨r, hr⟩ := by
    funext x
    rw [View.readAt_apply, View.read_whole]
    unfold idxRow
    refine congrArg I ?_
    funext a
    refine Fin.ext ?_
    have h0 : (x 0).val = 0 := Nat.lt_one_iff.mp (x 0).isLt
    match a with
    | 0 => show r + 1 * (x 0).val = r; omega
    | 1 => show 0 + 1 * (x 1).val = (x 1).val; omega
  have h : ((thr d L).loc cc0_scratch3 ↦{fullShare} I)
      ⊢ iprop((((thr d L).loc cc0_scratch3 ↦{fullShare} I)
          -∗ wp frame (wpE (defs₀ (F := F)) 𝒱₀ (thr d L) none) Set.univ
            (kk (bI.view.readAt (Elt F) (Rect.unit (s := S16x16) ![r, 0] S1x16.size inb).toLoadRect (I : S16x16.Idx → Elt F .i32))) Q)
        -∗ wp frame (wpE (defs₀ (F := F)) 𝒱₀ (thr d L) none) Set.univ
            (.op (.load bI (Rect.unit (s := S16x16) ![r, 0] S1x16.size inb).toLoadRect hl) kk) Q) :=
    wp_load 𝒱₀ (thr d L) none Set.univ (m := bI) (Finset.subset_univ _)
  rw [hv] at h
  exact h

/-- Start the table's fetch. -/
theorem wp_idxFetch (qi : PosShare TreeShare) {f : S16x16.Idx → BitVec 32}
    {hsrc : iV.view.WordExact} {hdst : bI.view.WordExact}
    {hsem : DmaTarget.Typed (nD := nD) (p := (thr d L).2) .hbm (.dma cc0_scoped0.sem) (.here bI)}
    {α : Type} {k : PUnit → Prog (TpuEff nD τ sig (Elt F) Λ₀ (thr d L).2) α} {Q : α → sProp 𝕄} :
    iprop(((thr d L).loc main_arg1_scv ↦{qi} I) ∗ ((thr d L).loc cc0_scratch3 ↦{fullShare} f) ∗ zero d L cc0_scoped0.sem)
      ⊢ iprop((Flight EC (thr d L) (.dma cc0_scoped0.sem) none bI.view.dmaCredit
            iprop(((thr d L).loc cc0_scratch3 ↦{fullShare} I) ∗ ((thr d L).loc main_arg1_scv ↦{qi} I))
          -∗ wp frame (wpE (defs₀ (F := F)) 𝒱₀ (thr d L) none) Set.univ (k ⟨⟩) Q)
        -∗ wp frame (wpE (defs₀ (F := F)) 𝒱₀ (thr d L) none) Set.univ
            (.op (.enqueueDma (p := (thr d L).2) iV (.here bI) (.dma cc0_scoped0.sem) hsrc hdst hsem) k) Q) := by
  have hc := wp_copy d L iV bI cc0_scoped0.sem _ rfl (View.dmaCredit_pos _ (show 0 < S16x16.numel by decide))
    (hsrc := hsrc) (hdst := hdst) (hsem := hsem) qi I f I (k := k) (Q := Q)
    (fun j => (cast_eq _ _).trans ((View.read_apply _ _).trans (cast_eq _ _)))
  rw [View.set_whole, View.set_whole] at hc
  exact hc

/-- The table's fetch, and the loads of its first ten rows. -/
theorem part5_wp (hO : ∀ g, O g none = 0) (qi : PosShare TreeShare)
    {α : Type} {kk : (Σ' (_ : BitVec 32) (_ : Vec F S16 .i32) (_ : Vec F S16 .i32) (_ : Vec F S16 .i32) (_ : Vec F S16 .i32) (_ : Vec F S16 .i32) (_ : Vec F S16 .i32) (_ : Vec F S16 .i32) (_ : Vec F S16 .i32) (_ : Vec F S16 .i32) (_ : Vec F S16 .i32), BitVec 32) → Prog (TpuEff nD τ sig (Elt F) Λ₀ (thr d L).2) α} {Q : α → sProp 𝕄} :
    iprop(levAts (K (F := F)).L (K (F := F)).lev ∗ ((thr d L).loc main_arg1_scv ↦{qi} I) ∗ (∃ f, (thr d L).loc cc0_scratch3 ↦{fullShare} f)
        ∗ zero d L cc0_scoped0.sem ∗ Owed d L O W)
      ⊢ iprop((iprop(((thr d L).loc main_arg1_scv ↦{qi} I) ∗ ((thr d L).loc cc0_scratch3 ↦{fullShare} I) ∗ zero d L cc0_scoped0.sem ∗ Owed d L O W)
          -∗ ∀ v2, wp frame (wpE (defs₀ (F := F)) 𝒱₀ (thr d L) none) Set.univ (kk ⟨v2, ivec (F := F) I 0, ivec (F := F) I 1, ivec (F := F) I 2, ivec (F := F) I 3, ivec (F := F) I 4, ivec (F := F) I 5, ivec (F := F) I 6, ivec (F := F) I 7, ivec (F := F) I 8, ivec (F := F) I 9, 10#32⟩) Q)
        -∗ wp frame (wpE (defs₀ (F := F)) 𝒱₀ (thr d L) none) Set.univ (k0_part5 (F := F) L xV (Memref.isWhole_whole _) iV (Memref.isWhole_whole _) oV (Memref.isWhole_whole _) bX (Memref.isWhole_whole _) b0 (Memref.isWhole_whole _) b1 (Memref.isWhole_whole _) bI (Memref.isWhole_whole _) cc0_scratch4 cc0_scratch5 cc0_scratch6 cc0_scratch7 cc0_scratch8 cc0_scratch9 cc0_scoped0 >>= kk) Q) := by
  simp only [k0_part5_eq_skeleton]
  unfold k0_part5_skel
  simp only [Prog.lift, Prog.bind_assoc, Prog.bind_op, Prog.bind_ret, Prog.pure_eq_ret]
  iintro ⟨#Hlv, Hi, ⟨%f, Hb⟩, Hv, HO⟩ Hk
  iapply (wp_idxFetch I d L qi) $$ [Hi Hb Hv]
  · isplitl [Hi]; · iexact Hi
    isplitl [Hb]; · iexact Hb
    iexact Hv
  iintro Hf
  iapply (wp_land d L O W hO rfl) $$ [Hf HO]
  · isplitr; · iexact Hlv
    isplitl [Hf] <;> iassumption
  iintro ⟨⟨Hb, Hi⟩, Hv, HO⟩
  iapply (wp_idxLoad I d L 0 (by decide)) $$ [Hb]; · iexact Hb
  iintro Hb
  iapply (wp_idxLoad I d L 1 (by decide)) $$ [Hb]; · iexact Hb
  iintro Hb
  iapply (wp_idxLoad I d L 2 (by decide)) $$ [Hb]; · iexact Hb
  iintro Hb
  iapply (wp_idxLoad I d L 3 (by decide)) $$ [Hb]; · iexact Hb
  iintro Hb
  iapply (wp_idxLoad I d L 4 (by decide)) $$ [Hb]; · iexact Hb
  iintro Hb
  iapply (wp_idxLoad I d L 5 (by decide)) $$ [Hb]; · iexact Hb
  iintro Hb
  iapply (wp_idxLoad I d L 6 (by decide)) $$ [Hb]; · iexact Hb
  iintro Hb
  iapply (wp_idxLoad I d L 7 (by decide)) $$ [Hb]; · iexact Hb
  iintro Hb
  iapply (wp_idxLoad I d L 8 (by decide)) $$ [Hb]; · iexact Hb
  iintro Hb
  iapply (wp_idxLoad I d L 9 (by decide)) $$ [Hb]; · iexact Hb
  iintro Hb
  rw [show k0_pay5 (idxRow (F := F) I ⟨0, by decide⟩) = ivec I 0 from cast_row I 0,
    show k0_pay6 (idxRow (F := F) I ⟨1, by decide⟩) = ivec I 1 from cast_row I 1,
    show k0_pay7 (idxRow (F := F) I ⟨2, by decide⟩) = ivec I 2 from cast_row I 2,
    show k0_pay8 (idxRow (F := F) I ⟨3, by decide⟩) = ivec I 3 from cast_row I 3,
    show k0_pay9 (idxRow (F := F) I ⟨4, by decide⟩) = ivec I 4 from cast_row I 4,
    show k0_pay10 (idxRow (F := F) I ⟨5, by decide⟩) = ivec I 5 from cast_row I 5,
    show k0_pay11 (idxRow (F := F) I ⟨6, by decide⟩) = ivec I 6 from cast_row I 6,
    show k0_pay12 (idxRow (F := F) I ⟨7, by decide⟩) = ivec I 7 from cast_row I 7,
    show k0_pay13 (idxRow (F := F) I ⟨8, by decide⟩) = ivec I 8 from cast_row I 8,
    show k0_pay14 (idxRow (F := F) I ⟨9, by decide⟩) = ivec I 9 from cast_row I 9]
  iapply Hk $$ [Hi Hb Hv HO]
  isplitl [Hi]; · iexact Hi
  isplitl [Hb]; · iexact Hb
  isplitl [Hv] <;> iassumption

/-- The loads of the last six rows, and the first fetch of the input. -/
theorem part6_wp (q0 : PosShare TreeShare) (v2 : BitVec 32)
    {α : Type} {kk : (Σ' (_ : Vec F S16 .i32) (_ : Vec F S16 .i32) (_ : Vec F S16 .i32) (_ : Vec F S16 .i32) (_ : Vec F S16 .i32) (_ : Vec F S16 .i32), IVec S16 32) → Prog (TpuEff nD τ sig (Elt F) Λ₀ (thr d L).2) α} {Q : α → sProp 𝕄} :
    iprop(((thr d L).loc cc0_scratch3 ↦{fullShare} I) ∗ ((thr d L).loc main_v1_scv ↦{q0} X) ∗ winAny d L 0 0 ∗ zero d L cc0_scratch4.sem)
      ⊢ iprop((iprop(((thr d L).loc cc0_scratch3 ↦{fullShare} I) ∗ Fetching X d L cc0_scratch4.sem 0 0 (s0 L) q0)
          -∗ wp frame (wpE (defs₀ (F := F)) 𝒱₀ (thr d L) none) Set.univ (kk ⟨ivec (F := F) I 10, ivec (F := F) I 11, ivec (F := F) I 12, ivec (F := F) I 13, ivec (F := F) I 14, ivec (F := F) I 15, lanes⟩) Q)
        -∗ wp frame (wpE (defs₀ (F := F)) 𝒱₀ (thr d L) none) Set.univ (k0_part6 (F := F) L xV (Memref.isWhole_whole _) iV (Memref.isWhole_whole _) oV (Memref.isWhole_whole _) bX (Memref.isWhole_whole _) b0 (Memref.isWhole_whole _) b1 (Memref.isWhole_whole _) bI (Memref.isWhole_whole _) cc0_scratch4 cc0_scratch5 cc0_scratch6 cc0_scratch7 cc0_scratch8 cc0_scratch9 cc0_scoped0 v2 10#32 >>= kk) Q) := by
  have e1 := k0_off1_eq L
  simp only [k0_part6_eq_skeleton]
  unfold k0_part6_skel
  simp only [Prog.lift, Prog.bind_assoc, Prog.bind_op, Prog.bind_ret, Prog.pure_eq_ret]
  iintro ⟨Hb, Hx, ⟨%f, Hw⟩, Hv⟩ Hk
  iapply (wp_idxLoad I d L 10 (by decide)) $$ [Hb]; · iexact Hb
  iintro Hb
  iapply (wp_idxLoad I d L 11 (by decide)) $$ [Hb]; · iexact Hb
  iintro Hb
  iapply (wp_idxLoad I d L 12 (by decide)) $$ [Hb]; · iexact Hb
  iintro Hb
  iapply (wp_idxLoad I d L 13 (by decide)) $$ [Hb]; · iexact Hb
  iintro Hb
  iapply (wp_idxLoad I d L 14 (by decide)) $$ [Hb]; · iexact Hb
  iintro Hb
  iapply (wp_idxLoad I d L 15 (by decide)) $$ [Hb]; · iexact Hb
  iintro Hb
  rw [show k0_pay15 (idxRow (F := F) I ⟨10, by decide⟩) = ivec I 10 from cast_row I 10,
    show k0_pay16 (idxRow (F := F) I ⟨11, by decide⟩) = ivec I 11 from cast_row I 11,
    show k0_pay17 (idxRow (F := F) I ⟨12, by decide⟩) = ivec I 12 from cast_row I 12,
    show k0_pay18 (idxRow (F := F) I ⟨13, by decide⟩) = ivec I 13 from cast_row I 13,
    show k0_pay19 (idxRow (F := F) I ⟨14, by decide⟩) = ivec I 14 from cast_row I 14,
    show k0_pay20 (idxRow (F := F) I ⟨15, by decide⟩) = ivec I 15 from cast_row I 15]
  iapply (wp_fetch X d L cc0_scratch4.sem 0 0 (s0 L) q0 _ _ _ _ (congrFun e1 0) (congrFun e1 1) (congrFun e1 2) rfl rfl rfl) $$ [Hx Hw Hv]
  · isplitl [Hx]; · iexact Hx
    isplitl [Hw] <;> iassumption
  iintro Hf
  iapply Hk $$ [Hb Hf]
  isplitl [Hb] <;> iassumption

/-! ## The whole task -/

/-- Two windows of a half, joined at some contents. -/
theorem win_join (b : ℕ) : iprop(winAny d L b 0 ∗ winAny d L b 64)
    ⊢ (iprop(∃ f, (thr d L).loc cc0_scratch0 ↦[(box b 0 128 : Finset S2x128x256.Idx)]{fullShare} f) : sProp 𝕄) := by
  rw [box_union (lo := 0) (mid := 0 + 64) (hi := 128) (by omega) (by omega)]
  iintro ⟨⟨%f, H⟩, ⟨%g, H'⟩⟩
  ihave H := (pointsTo_join (ℓ := (thr d L).loc cc0_scratch0) (box_disjoint (n0 := 2) (n1 := 128) (n2 := 256) (a := b) (lo := 0) (mid := 0 + 64) (hi := 128))) $$ [H H']
  · isplitl [H] <;> iassumption
  iexists _; iexact H

theorem box_two : (Finset.univ : Finset S2x128x256.Idx) = box 0 0 128 ∪ box 1 0 128 := by
  ext y
  rw [Finset.mem_union, mem_box, mem_box]
  have h0 : (y 0).val < 2 := (y 0).isLt
  have h1 : (y 1).val < 128 := (y 1).isLt
  simp only [Finset.mem_univ, true_iff]; omega

/-- The input buffer as its four windows, and back. -/
theorem big_split : iprop(∃ f, (thr d L).loc cc0_scratch0 ↦{fullShare} f)
    ⊢ (iprop((winAny d L 0 0 ∗ winAny d L 0 64) ∗ (winAny d L 1 0 ∗ winAny d L 1 64)) : sProp 𝕄) := by
  rw [box_two]
  iintro ⟨%f, H⟩
  ihave H := (pointsTo_union (box_disjoint_of_ne (by decide))).1 $$ H
  icases H with ⟨H, H'⟩
  ihave H := (half_any d L) $$ H
  ihave H' := (half_any d L) $$ H'
  isplitl [H] <;> iassumption

theorem big_join : (iprop((winAny d L 0 0 ∗ winAny d L 0 64) ∗ (winAny d L 1 0 ∗ winAny d L 1 64)) : sProp 𝕄)
    ⊢ iprop(∃ f, (thr d L).loc cc0_scratch0 ↦{fullShare} f) := by
  iintro ⟨H, H'⟩
  ihave H := (win_join d L 0) $$ H
  ihave H' := (win_join d L 1) $$ H'
  icases H with ⟨%f, H⟩
  icases H' with ⟨%g, H'⟩
  ihave H := (pointsTo_join (ℓ := (thr d L).loc cc0_scratch0) (box_disjoint_of_ne (n0 := 2) (n1 := 128) (n2 := 256) (lo := 0) (hi := 128) (lo' := 0) (hi' := 128) (show (0 : ℕ) ≠ 1 by decide))) $$ [H H']
  · isplitl [H] <;> iassumption
  rw [box_two]
  iexists ((box 1 0 128 : Finset S2x128x256.Idx).piecewise g f)
  iexact H

/-- The tile's share of the input, dealt to the four windows. -/
theorem toks4 (qx : PosShare TreeShare) :
    ((thr d L).loc main_v1_scv ↦{qx} X : sProp 𝕄)
      ⊣⊢ iprop(((thr d L).loc main_v1_scv ↦{Transfers.shareDrop qx 4} X)
          ∗ xTok X d L (fun i => Transfers.shareTok qx 4 i) 0 ∗ xTok X d L (fun i => Transfers.shareTok qx 4 i) 1
          ∗ xTok X d L (fun i => Transfers.shareTok qx 4 i) 2 ∗ xTok X d L (fun i => Transfers.shareTok qx 4 i) 3) := by
  have h := Transfers.pointsTo_toks (nD := nD) (τ := τ) (sig := sig) (Ix := HIx 1) (Val := Elt F) (Name := ℕ) (U := UU) (Lvl := ℕ) (ℓ := (thr d L).loc main_v1_scv) (S := Finset.univ) (f := X) qx 4
  rw [BI.bigSep_univ_eq_bigSepL [0, 1, 2, 3] (by decide) (by decide)] at h
  exact h

/-- What the tile is given: shares of the input and of the table, and its rows of the result array. -/
abbrev tileGo (qx qi : PosShare TreeShare) : sProp 𝕄 :=
  iprop(((thr d L).loc main_v1_scv ↦{qx} X) ∗ ((thr d L).loc main_arg1_scv ↦{qi} I) ∗ todoRows G d L (s0 L) (s0 L + 70))
/-- What it gives back: the same with its rows written. -/
abbrev tileTd (qx qi : PosShare TreeShare) : sProp 𝕄 :=
  iprop(((thr d L).loc main_v1_scv ↦{qx} X) ∗ ((thr d L).loc main_arg1_scv ↦{qi} I) ∗ doneRows X I d L (s0 L) (s0 L + 70))

/-- No rows are done at the start. -/
theorem done_none {P : sProp 𝕄} [BI.Affine P] : P ⊢ (doneRows X I d L (s0 L) (s0 L + (2 * 0 - 2)) : sProp 𝕄) := by
  unfold doneRows
  rw [show s0 L + (2 * 0 - 2) = s0 L from rfl, rows_empty, pointsTo_empty]
  exact BI.affine

/-- The tile's task: it leaves its rows of the result array at their values, and all it was lent as it was. -/
theorem tile_body (hI : ∀ j, (I j).toNat < 256) (hO : ∀ g, O g none = 0) (qx qi : PosShare TreeShare) :
    iprop(levAts (K (F := F)).L (K (F := F)).lev ∗ tileGo X I G d L qx qi
        ∗ scopedBufs (thr d L) ∗ scopedSems0 (thr d L) ∗ owes (thr d L) O W)
      ⊢ wp frame (wpE (defs₀ (F := F)) 𝒱₀ (thr d L) none) Set.univ (cc0_k (F := F) L xV (Memref.isWhole_whole _) iV (Memref.isWhole_whole _) oV (Memref.isWhole_whole _) bX (Memref.isWhole_whole _) b0 (Memref.isWhole_whole _) b1 (Memref.isWhole_whole _) bI (Memref.isWhole_whole _) cc0_scratch4 cc0_scratch5 cc0_scratch6 cc0_scratch7 cc0_scratch8 cc0_scratch9 cc0_scoped0)
          fun _ => iprop(tileTd X I d L qx qi ∗ scopedBufs (thr d L) ∗ scopedSems0 (thr d L) ∗ Owed d L O W) := by
  have e2 := k0_off2_eq L
  simp only [cc0_k_eq_skeleton]
  unfold cc0_k_skel
  rw [(K (F := F)).scopedBufs_V facts d (cV L) (jV L), SparseCore.Cfg.scopedSems0_V (Val := Elt F) d (cV L) (jV L), ownSems0_V d L, ownBufs_V d L]
  iintro ⟨#Hlv, ⟨Hx, Hi, Ho⟩, ⟨Hc, Hb0, Hb1, HbI, Hbufs⟩, ⟨Hv, Hv4, Hv5, Hv6, Hv7, Hv8, Hv9, Hsems⟩, HO⟩
  ihave Hx := (toks4 X d L qx).1 $$ Hx
  icases Hx with ⟨Hxd, Hx0, Hx1, Hx2, Hx3⟩
  ihave Hc := (big_split d L) $$ Hc
  icases Hc with ⟨⟨Hw0, Hw1⟩, Hw2, Hw3⟩
  iapply (part5_wp I d L O W hO qi) $$ [Hi HbI Hv HO]
  · isplitr; · iexact Hlv
    isplitl [Hi]; · iexact Hi
    isplitl [HbI]; · iexact HbI
    isplitl [Hv]; · iexact Hv
    iexists W; isplitr; · ipureintro; exact fun p hp => Or.inl hp
    iexact HO
  iintro ⟨Hi, HbI, Hv, HO⟩ %v2
  iapply (part6_wp X I d L _ v2) $$ [HbI Hx0 Hw0 Hv4]
  · isplitl [HbI]; · iexact HbI
    isplitl [Hx0]; · iexact Hx0
    isplitl [Hw0] <;> iassumption
  iintro ⟨HbI, Hf0⟩
  simp only [Prog.lift, Prog.bind_assoc, Prog.bind_op, Prog.bind_ret, Prog.pure_eq_ret]
  icases Hw1 with ⟨%w1, Hw1⟩
  iapply (wp_fetch X d L cc0_scratch5.sem 0 64 (s0 L) _ _ _ _ _ (congrFun e2 0) (congrFun e2 1) (congrFun e2 2) rfl rfl rfl) $$ [Hx1 Hw1 Hv5]
  · isplitl [Hx1]; · iexact Hx1
    isplitl [Hw1] <;> iassumption
  iintro Hf1
  sl_for (fun p _ => tripInv X I G d L O W (fun i => Transfers.shareTok qx 4 i) p) $$ [Hf0 Hf1 Hw2 Hw3 Hx2 Hx3 Hv6 Hv7 Hv8 Hv9 Hb0 Hb1 Ho HO]
  case region => intro k _; exact trip_wp X I G d L O W _ hI hO v2 k
  · unfold tripInv
    isplitr; · iexact Hlv
    isplitl [Hf0 Hf1]
    · unfold in0
      rw [if_pos (by decide)]
      isplitl [Hf0] <;> iassumption
    isplitl [Hw2 Hw3 Hx2 Hx3 Hv6 Hv7]
    · isplitl [Hw2]; · iexact Hw2
      isplitl [Hw3]; · iexact Hw3
      isplitl [Hx2]; · iexact Hx2
      isplitl [Hx3]; · iexact Hx3
      isplitl [Hv6] <;> iassumption
    isplitl [Hb0 Hv8]
    · unfold out0
      rw [if_pos rfl]
      isplitl [Hb0] <;> iassumption
    isplitl [Hb1 Hv9]
    · unfold out1
      rw [if_pos rfl]
      isplitl [Hb1] <;> iassumption
    isplitr
    · iapply (done_none X I d L); iexact Hlv
    isplitl [Ho]; · iexact Ho
    iexact HO
  rw [show Scf.trips k0_t1_loop.lb k0_t1_loop.ub k0_t1_loop.st = 35 from trips1]
  unfold tripInv in0 out0 out1
  rw [if_neg (show ¬ (35 : ℕ) < 35 by decide), if_neg (show ¬ (35 : ℕ) = 0 by decide), if_neg (show ¬ (35 : ℕ) = 0 by decide)]
  iintro %acc ⟨-, ⟨Hw0, Hw1, Hx0, Hx1, Hv4, Hv5⟩, ⟨Hw2, Hw3, Hx2, Hx3, Hv6, Hv7⟩, Hf0, Hf1, Hd, Ht, HO⟩
  iapply (wp_land d L O W hO rfl) $$ [Hf0 HO]
  · isplitr; · iexact Hlv
    isplitl [Hf0] <;> iassumption
  iintro ⟨⟨Hr0, Hb0⟩, Hv8, HO⟩
  iapply (wp_land d L O W hO rfl) $$ [Hf1 HO]
  · isplitr; · iexact Hlv
    isplitl [Hf1] <;> iassumption
  iintro ⟨⟨Hr1, Hb1⟩, Hv9, HO⟩
  rw [wp_ret]
  imodintro
  ihave Hd := (done_join X I d L (show s0 L ≤ s0 L + 68 by omega) (show s0 L + 68 ≤ s0 L + 69 by omega)) $$ [Hd Hr0]
  · isplitl [Hd] <;> iassumption
  ihave Hd := (done_join X I d L (show s0 L ≤ s0 L + 69 by omega) (show s0 L + 69 ≤ s0 L + 70 by omega)) $$ [Hd Hr1]
  · isplitl [Hd] <;> iassumption
  ihave Hx := (toks4 X d L qx).2 $$ [Hxd Hx0 Hx1 Hx2 Hx3]
  · isplitl [Hxd]; · iexact Hxd
    isplitl [Hx0]; · iexact Hx0
    isplitl [Hx1]; · iexact Hx1
    isplitl [Hx2] <;> iassumption
  ihave Hc := (big_join d L) $$ [Hw0 Hw1 Hw2 Hw3]
  · isplitl [Hw0 Hw1]
    · isplitl [Hw0] <;> iassumption
    · isplitl [Hw2] <;> iassumption
  isplitl [Hx Hi Hd]
  · isplitl [Hx]; · iexact Hx
    isplitl [Hi] <;> iassumption
  isplitl [Hc Hb0 Hb1 HbI Hbufs]
  · isplitl [Hc]; · iexact Hc
    isplitl [Hb0]; · iexists _; iexact Hb0
    isplitl [Hb1]; · iexists _; iexact Hb1
    isplitl [HbI]; · iexists _; iexact HbI
    iexact Hbufs
  isplitl [Hv Hv4 Hv5 Hv6 Hv7 Hv8 Hv9 Hsems]
  · isplitl [Hv]; · iexact Hv
    isplitl [Hv4]; · iexact Hv4
    isplitl [Hv5]; · iexact Hv5
    isplitl [Hv6]; · iexact Hv6
    isplitl [Hv7]; · iexact Hv7
    isplitl [Hv8]; · iexact Hv8
    isplitl [Hv9] <;> iassumption
  iexact HO

end Cert.Proof.KI

end
-- ==== Proof.Region.lean ====
/-
  The TensorCore's kernel region: the body over a block, its proof data at an entry valuation, and the region over
  the thread state of the launch.
-/
module

public import proofs.«01_k».proof.Proof.Base
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value

@[expose] public section

noncomputable section

namespace Cert.Proof.KI

open Cert.KernelIdeal Cert.KernelIdeal.Gen
open Cert.Proof.Geo

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.TcCoe
open Idealize.ShloMosaic.Pipeline (Dat Cfg Window BodyObligation cellOf)

variable [FloatOps F]

local notation "𝕄" => MT nD τ sig (HIx 1) (Elt F) ℕ UU ℕ

/-! ## The body -/

/-- What the body stores, as a function of the block it loads. -/
def tcPay (v : Vec F S32x128x256 .f32) : FVec F S32x16x128 .f32 :=
  k1_pay1 (k1_pay9 (k1_pay3 v) (k1_pay4 v) (Scalar.select (Scalar.cmpi .eq 16#32 0#32) 1#32 16#32) k1_pay5 k1_pay6 k1_pay7 (Scalar.cmpi .slt (Scalar.select (Scalar.cmpi .eq 16#32 0#32) 1#32 16#32) 0#32))
    (k1_pay10 (k1_pay3 v) (k1_pay4 v) (Scalar.select (Scalar.cmpi .eq 16#32 0#32) 1#32 16#32) k1_pay5 k1_pay6 k1_pay7 (Scalar.cmpi .slt (Scalar.select (Scalar.cmpi .eq 16#32 0#32) 1#32 16#32) 0#32))
    (iota .tc S32x128x16 32 [2] iota_S32x128x16_d2_w32) 16#32 (Scalar.cmpi .eq 16#32 0#32)

theorem zero3 : (![0, 0, 0] : Fin 3 → ℕ) = fun _ => 0 := funext fun a => by fin_cases a <;> rfl

/-- A load of a whole memref at offset zero reads its contents. -/
theorem readAt_zero {κ : Kind} {sp : Space} {s : Shape} {e : EltTy} (v : View sig κ sp s e) {off : Fin s.rank → ℕ} (hz : off = fun _ => 0)
    (inb : ∀ a, off a + s.size a ≤ s.size a) (f : v.ty.Contents (Elt F)) :
    v.readAt (Elt F) (Rect.unit off s.size inb).toLoadRect f = v.read (Elt F) f := by
  subst hz
  funext x
  rw [View.readAt_apply]
  congr 1
  funext a
  exact Fin.ext (by rw [LoadRect.idx_apply]; show 0 + 1 * (x a).val = _; omega)

/-- What a store over the whole of a memref leaves in it: what it stored. -/
theorem read_access_zero {κ : Kind} {sp : Space} {s : Shape} {e : EltTy} (m : Memref sig κ sp s e) {off : Fin s.rank → ℕ} (hz : off = fun _ => 0)
    (inb : ∀ a, off a + s.size a ≤ s.size a) (f : m.view.ty.Contents (Elt F)) (w : s.Idx → Elt F e) :
    m.view.read (Elt F) ((m.access (Rect.unit off s.size inb)).write (Elt F) f w Finset.univ) = w := by
  subst hz
  refine Eq.trans ?_ (View.read_write_univ (v := m.access (Rect.unit (fun _ => 0) s.size inb)) f w)
  funext x
  have hx : (Rect.unit (s := s) (fun _ => 0) s.size inb).emb x = x := funext fun a => Fin.ext (by show 0 + 1 * (x a).val = _; omega)
  rw [View.read_apply, View.read_apply]
  rw [show (m.access (Rect.unit (s := s) (fun _ => 0) s.size inb)).emb x = m.view.emb ((Rect.unit (s := s) (fun _ => 0) s.size inb).emb x) from rfl, hx]

/-- A load of a whole memref at offset zero, the memref owned. -/
theorem wp_load_zero (c : Dev nD) {cs : CoreSpace} {s : Shape} {e : EltTy} (m : Memref sig .tc cs s e) {off : Fin s.rank → ℕ} (hz : off = fun _ => 0)
    (inb : ∀ a, off a + s.size a ≤ s.size a) (hl : m.view.LoadsAt (Rect.unit off s.size inb).toLoadRect) (v : s.Idx → Elt F e)
    {k : (s.Idx → Elt F e) → Prog (TpuEff nD τ sig (Elt F) Λ₀ .tc) PUnit} {Q : PUnit → sProp 𝕄} :
    iprop(owns (c : Thread nD τ) m fullShare v ∗ (owns (c : Thread nD τ) m fullShare v -∗ wp frame (wpE (defs₀ (F := F)) 𝒱₀ (c : Thread nD τ) none) Set.univ (k v) Q))
      ⊢ wp frame (wpE (defs₀ (F := F)) 𝒱₀ (c : Thread nD τ) none) Set.univ (.op (.load m (Rect.unit off s.size inb).toLoadRect hl) k) Q := by
  unfold owns
  iintro ⟨⟨%f0, %hf0, H0⟩, Hk⟩
  iapply (wp_load (E := Set.univ) (bd := none) (defs := defs₀ (F := F)) (c := (c : Thread nD τ)) 𝒱₀ (m := m) (S := m.view.set) (q := fullShare) (f := f0) (View.setOn_subset_set _ _)) $$ H0
  iintro H0
  rw [readAt_zero _ hz, hf0]
  iapply Hk
  iexists f0; isplitr; · ipureintro; exact hf0
  iexact H0

/-- A store over the whole of a memref, the memref owned. -/
theorem wp_store_zero (c : Dev nD) {cs : CoreSpace} {s : Shape} {e : EltTy} (m : Memref sig .tc cs s e) {off : Fin s.rank → ℕ} (hz : off = fun _ => 0)
    (inb : ∀ a, off a + s.size a ≤ s.size a) (w v : s.Idx → Elt F e) (hx : (m.access (Rect.unit off s.size inb)).Stores Finset.univ)
    (hm : (Finset.univ : Finset (Rect.unit off s.size inb).shape.Idx) = Finset.univ ∨ ∀ a, (Rect.unit off s.size inb).stride a = 1)
    {k : PUnit → Prog (TpuEff nD τ sig (Elt F) Λ₀ .tc) PUnit} {Q : PUnit → sProp 𝕄} :
    iprop(owns (c : Thread nD τ) m fullShare v ∗ (owns (c : Thread nD τ) m fullShare w -∗ wp frame (wpE (defs₀ (F := F)) 𝒱₀ (c : Thread nD τ) none) Set.univ (k ⟨⟩) Q))
      ⊢ wp frame (wpE (defs₀ (F := F)) 𝒱₀ (c : Thread nD τ) none) Set.univ (.op (.store m (Rect.unit off s.size inb) w Finset.univ hx hm) k) Q := by
  unfold owns
  iintro ⟨⟨%f1, -, H1⟩, Hk⟩
  iapply (wp_store (E := Set.univ) (bd := none) (defs := defs₀ (F := F)) (c := (c : Thread nD τ)) 𝒱₀ (m := m) (r := Rect.unit off s.size inb) (S := m.view.set) (f := f1)
    ((View.setOn_subset_set _ _).trans (View.set_slice_subset _ _))) $$ H1
  iintro H1
  iapply Hk
  iexists _; isplitr; swap; · iexact H1
  ipureintro
  exact read_access_zero m hz inb f1 w

/-- The body on two staging buffers held whole: the input block as it was, the result's at what the body stores. -/
theorem tc_wp (c : Dev nD) (i : grid1.Coords) (M0 : Memref sig .tc .vmem S32x128x256 .f32) (h0 : M0.IsWhole) (M1 : Memref sig .tc .vmem S32x16x128 .f32) (h1 : M1.IsWhole)
    (v : S32x128x256.Idx → Elt F .f32) (w : S32x16x128.Idx → Elt F .f32) {Q : PUnit → sProp 𝕄} :
    iprop(owns (c : Thread nD τ) M0 fullShare v ∗ owns (c : Thread nD τ) M1 fullShare w
        ∗ (iprop(owns (c : Thread nD τ) M0 fullShare v ∗ owns (c : Thread nD τ) M1 fullShare (tcPay v)) -∗ Q ⟨⟩))
      ⊢ wp frame (wpE (defs₀ (F := F)) 𝒱₀ (c : Thread nD τ) none) Set.univ (cc1_body (F := F) i M0 h0 M1 h1) Q := by
  simp only [cc1_body_eq_skeleton]
  unfold cc1_body_skel
  simp only [k1_part1_eq_skeleton, k1_part2_eq_skeleton]
  unfold k1_part1_skel k1_part2_skel
  simp only [Prog.lift, Prog.bind_assoc, Prog.bind_op, Prog.bind_ret, Prog.pure_eq_ret]
  iintro ⟨H0, H1, Hk⟩
  iapply (wp_load_zero c M0 zero3)
  isplitl [H0]; · iexact H0
  iintro H0
  iapply (wp_load_zero c M1 zero3)
  isplitl [H1]; · iexact H1
  iintro H1
  iapply (wp_store_zero c M1 zero3)
  isplitl [H1]; · iexact H1
  iintro H1
  rw [wp_ret]
  imodintro
  iapply Hk
  isplitl [H0]; · iexact H0
  unfold tcPay
  iexact H1

/-! ## The proof data -/

variable (VV : (c : Dev nD) → (b : Ref sig .tc) → Buf (Elt F) ((c : Thread nD τ).loc b))

/-- The input's block at grid point `t`. -/
abbrev blkAt (c : Dev nD) (t : Fin cfg1.N) : S32x128x256.Idx → Elt F .f32 :=
  ((cfg1.win 0).blk t).view.read (Elt F) (VV c main_v1)

/-- The recorded waits of the core stay at or below this level. -/
abbrev wBound (c : Dev nD) : Set (SemLoc sig × HIx 1) := {p | (K (F := F)).lev (T c, p.1) p.2 ≤ 8}

/-- The proof data of the region entered at valuation `VV`. -/
def dat (c : Dev nD) : Dat τ (Elt F) (HIx 1) ℕ UU ℕ cfg1 c where
  A w := VV c (Pipeline.arrRef spec1 w)
  after w t := match w with
    | ⟨0, _⟩ => blkAt VV c t
    | ⟨1, _⟩ => tcPay (blkAt VV c t)
  Φ _ := iprop(emp)
  q _ := fullShare
  owed _ := 0
  recorded _ := wBound (F := F) c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat VV c

theorem before_in (c : Dev nD) (t : Fin cfg1.N) (d : (cfg1.win 0).block.Idx → Elt F (cfg1.win 0).elt) : (dat VV c).before 0 t d = blkAt VV c t := by
  unfold Dat.before; rw [if_pos (fetch1_0 t)]; rfl

theorem body_obligation (c : Dev nD) : BodyObligation (dat VV c) (defs₀ (F := F)) 𝒱₀ none Set.univ := fun t => by
  rw [bigSep_W1, bigSep_W1]
  rw [show (dat VV c).Φ t.castSucc = iprop(emp) from rfl, show (dat VV c).Φ t.succ = iprop(emp) from rfl,
    show (dat VV c).owesAt none t.succ = (dat VV c).owesAt none t.castSucc from rfl]
  iintro ⟨HΦ, Howes, ⟨%d0, H0⟩, ⟨%d1, H1⟩⟩
  rw [before_in]
  iapply (tc_wp c _ _ _ _ _ (blkAt VV c t) _)
  isplitl [H0]; · iexact H0
  isplitl [H1]; · iexact H1
  iintro ⟨H0, H1⟩
  isplitl [HΦ]; · iexact HΦ
  isplitl [Howes]; · iexact Howes
  isplitl [H0]; · iexact H0
  iexact H1

/-! ## The region over the thread state -/

/-- The result's array after the region. -/
def tcOut (c : Dev nD) : Buf (Elt F) ((c : Thread nD τ).loc main_v3) := (dat VV c).arrAt 1 cfg1.N

variable (Vp : (c : Dev nD) → (b : Ref sig .tc) → Buf (Elt F) ((c : Thread nD τ).loc b))

/-- The core's record of waits, as the launch keeps it after the SparseCore call. -/
abbrev owesTc (c : Dev nD) : sProp 𝕄 := iprop(∃ W, ⌜(K (F := F)).WBelow (T c) W 8⌝ ∗ owes (T c) (0 : CellTallies nD τ sig (HIx 1)) W)

set_option backward.isDefEq.respectTransparency.types false in
/-- The region: entered with every unscoped buffer at `VV`, left with them at `Vp`, which is `VV` but for the result. -/
def reg (hout : ∀ c, Vp c main_v3 = tcOut VV c) (hne : ∀ c (b : Ref sig .tc), b ≠ main_v3 → Vp c b = VV c b) :
    Pipeline.RegionSeg (pcfgs (F := F)) adm (pdats VV adm) none (defs₀ (F := F)) 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation VV c).loose
  hwaits := Pipeline.hwaits_of_owed_zero _ _ _ _ _ _ 0 fun _ _ => rfl
  pre c := iprop(unscopedBufs c (VV c) ∗ owesTc c)
  post c := iprop(unscopedBufs c (Vp c) ∗ owesTc c)
  X _ := BI.emp
  Y _ := BI.emp
  Z c := Pipeline.unscopedRest (Ix := HIx 1) (Name := ℕ) (U := UU) (Lvl := ℕ) spec1 c (VV c)
  hentry c := by
    rw [Pipeline.ownSems0_none]
    have hsplit := Pipeline.arrays_of_unscopedBufs (p := 0) (pcfgs (F := F)) adm (pdats VV adm) launch1.win launch1.arr_whole c
      ((pdats VV adm 0 c).share_full fun _ => rfl) (VV c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats VV adm 0 c).Φ 0 = iprop(emp) from rfl]
    iintro -; iempintro
  hout c := by
    rw [Pipeline.ownSems0_none]
    have e : Pipeline.scopedRest (Ix := HIx 1) (Name := ℕ) (U := UU) (Lvl := ℕ) (Val := Elt F) spec1 c = (iprop(emp) : sProp 𝕄) := scopedRest1_eq c
    iintro -
    isplitr; · iempintro
    isplitr; · iempintro
    rw [show Pipeline.scopedRest (Ix := HIx 1) (Name := ℕ) (U := UU) (Lvl := ℕ) (Val := Elt F) (Pipeline.pin (pcfgs (F := F)) adm 0).spec c = (iprop(emp) : sProp 𝕄) from e]
    iempintro
  hexit c := by
    have hjoin := Pipeline.unscopedBufs_of_arrays (p := 0) (pcfgs (F := F)) adm (Ix := HIx 1) (Name := ℕ) (U := UU) (Lvl := ℕ) launch1.win launch1.arr_whole c
      (pdats VV adm) ((pdats VV adm 0 c).share_full fun _ => rfl) (VV c) (Vp c) ((pdats VV adm 0 c).arrAt · cfg1.N)
      (fun w => by
        fin_cases w
        · exact ((pdats VV adm 0 c).arrAt_in 0 rfl _).trans (hne c main_v1 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | h
      · exact h
      · obtain ⟨w, s, rfl⟩ := h
        exact Nat.zero_le _
    iexact HO

theorem reg_pre (hout : ∀ c, Vp c main_v3 = tcOut VV c) (hne : ∀ c (b : Ref sig .tc), b ≠ main_v3 → Vp c b = VV c b) (c : Dev nD) :
    (reg VV adm Vp hout hne).pre c = iprop(unscopedBufs c (VV c) ∗ owesTc c) := rfl
theorem reg_post (hout : ∀ c, Vp c main_v3 = tcOut VV c) (hne : ∀ c (b : Ref sig .tc), b ≠ main_v3 → Vp c b = VV c b) (c : Dev nD) :
    (reg VV adm Vp hout hne).post c = iprop(unscopedBufs c (Vp c) ∗ owesTc c) := rfl

end Cert.Proof.KI

end
-- ==== Proof.Launch.lean ====
/-
  The launch: what the SparseCore call hands its tiles and takes back, @main on the TensorCore through the call, the
  TensorCore's kernel region and the host operations, and the program's run.
-/
module

public import proofs.«01_k».proof.Proof.Tile
public import proofs.«01_k».proof.Proof.Region

@[expose] public section

noncomputable section

namespace Cert.Proof.KI

open Cert.KernelIdeal Cert.KernelIdeal.Gen
open Cert.Proof.Geo

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

open Idealize.ShloMosaic.TcCoe
open Idealize.ShloMosaic.StableHlo (held wp_hlo_within)
open Idealize.ShloMosaic.SparseCore (V)
open Cert.Proof.Geo

variable [FloatOps F]

local notation "𝕄" => MT nD τ sig (HIx 1) (Elt F) ℕ UU ℕ

/-! ## The arrays over @main -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev w0' : DevRef τ sig := Proc.devRef .tc (main_v0 : Ref sig .tc)
abbrev w1' : DevRef τ sig := Proc.devRef .tc (main_v1 : Ref sig .tc)
abbrev w2' : DevRef τ sig := Proc.devRef .tc (main_v2 : Ref sig .tc)
abbrev w3' : DevRef τ sig := Proc.devRef .tc (main_v3 : Ref sig .tc)
abbrev w4' : DevRef τ sig := Proc.devRef .tc (main_v4 : Ref sig .tc)
abbrev w5' : DevRef τ sig := Proc.devRef .tc (main_v5 : Ref sig .tc)
abbrev w6' : DevRef τ sig := Proc.devRef .tc (main_v6 : Ref sig .tc)

abbrev op0 : HloOp τ sig (Elt F) := StableHlo.unary main_arg0 main_v0 ((transpose S16x196x128x256 [0, 2, 1, 3] · transposes_S16x128x196x256_S16x196x128x256_0_2_1_3) : (⟨S16x128x196x256, .f32⟩ : BufTy).Contents (Elt F) → (⟨S16x196x128x256, .f32⟩ : BufTy).Contents (Elt F))
abbrev op1 : HloOp τ sig (Elt F) := StableHlo.reshape main_v0 main_v1 (rfl : (.f32 : EltTy) = .f32) shapeCasts_S16x196x128x256_S3136x128x256
abbrev op4 : HloOp τ sig (Elt F) := StableHlo.binary main_v2 main_v3 main_v4 ((fun a b => concatenate S3136x16x128 0 [⟨S2240x16x128, a⟩, ⟨S896x16x128, b⟩] concatenates_S2240x16x128_S896x16x128_S3136x16x128_d0) : (⟨S2240x16x128, .f32⟩ : BufTy).Contents (Elt F) → (⟨S896x16x128, .f32⟩ : BufTy).Contents (Elt F) → (⟨S3136x16x128, .f32⟩ : BufTy).Contents (Elt F))
abbrev op5 : HloOp τ sig (Elt F) := StableHlo.reshape main_v4 main_v5 (rfl : (.f32 : EltTy) = .f32) shapeCasts_S3136x16x128_S16x196x16x128
abbrev op6 : HloOp τ sig (Elt F) := StableHlo.unary main_v5 main_v6 ((transpose S16x128x196x16 [0, 3, 1, 2] · transposes_S16x196x16x128_S16x128x196x16_0_3_1_2) : (⟨S16x196x16x128, .f32⟩ : BufTy).Contents (Elt F) → (⟨S16x128x196x16, .f32⟩ : BufTy).Contents (Elt F))

/-- The valuation at the launch; -/
def V0 (d : Dev nD) : Valuation τ sig (Elt F) := fun b => m (d, b)
/-- after the transpose; -/
def V1 (d : Dev nD) : Valuation τ sig (Elt F) := (op0 (F := F)).result (V0 m d)
/-- after the reshape: what the SparseCore call is entered with; -/
def V2 (d : Dev nD) : Valuation τ sig (Elt F) := (op1 (F := F)).result (V1 m d)

/-- The slabs the two kernels read, -/
abbrev xOf (d : Dev nD) : S3136x128x256.Idx → Elt F .f32 := V2 m d w1'
/-- the index table, -/
abbrev iOf (d : Dev nD) : S16x16.Idx → BitVec 32 := m (d, a1')
/-- the result array as the call finds it. -/
abbrev gOf (d : Dev nD) : S2240x16x128.Idx → Elt F .f32 := V2 m d w2'

/-- After the call: its result array written; -/
def V3 (d : Dev nD) : Valuation τ sig (Elt F) := Function.update (V2 m d) w2' (gout (xOf m d) (iOf m d))
/-- after the TensorCore's region: its result array written; -/
def V4 (d : Dev nD) : Valuation τ sig (Elt F) := Function.update (V3 m d) w3' (tcOut (fun d b => V3 m d b) d)
def V5 (d : Dev nD) : Valuation τ sig (Elt F) := (op4 (F := F)).result (V4 m d)
def V6 (d : Dev nD) : Valuation τ sig (Elt F) := (op5 (F := F)).result (V5 m d)
/-- at the end. -/
def V7 (d : Dev nD) : Valuation τ sig (Elt F) := (op6 (F := F)).result (V6 m d)

/-! ## What the call hands out -/

/-- Grid point `(c, i)`. -/
def cI (c i : ℕ) : grid0.Coords := fun | 0 => Fin.ofNat 2 c | 1 => Fin.ofNat 16 i | ⟨_ + 2, h⟩ => absurd h (Nat.not_lt.2 (Nat.le_add_left _ _))

/-- The read share of grid point `(c, i)`. -/
abbrev qT (c i : ℕ) : PosShare TreeShare := Transfers.shareTokN fullShare (i + 16 * c)

abbrev goT (d : Dev nD) (c i : ℕ) : sProp 𝕄 := tileGo (xOf m d) (iOf m d) (gOf m d) d (cI c i) (qT c i) (qT c i)
abbrev tdT (d : Dev nD) (c i : ℕ) : sProp 𝕄 := tileTd (xOf m d) (iOf m d) d (cI c i) (qT c i) (qT c i)

/-- The call's payloads: each tile is lent shares of the slabs and of the table, and has its rows of the result. -/
def P : (K (F := F)).Pay (nD := nD) (Val := Elt F) (Name := ℕ) (U := UU) where
  st := fun _ d c => bigSep Finset.univ fun i : Fin 16 => goT m d c.val i.val
  dn := fun _ d c => bigSep Finset.univ fun i : Fin 16 => tdT m d c.val i.val
  go := fun _ d c i => goT m d c.val i.val
  td := fun _ d c i => tdT m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

theorem vecSplit : (K (F := F)).VecSplit' (P m) 0 := by
  intro d c
  show (bigSep Finset.univ fun i : Fin 16 => goT m d c.val i.val) ⊢ |={Set.univ}=> iprop(
      (bigSep Finset.univ fun i : Fin 16 => goT m d c.val i.val)
      ∗ ((bigSep Finset.univ fun i : Fin 16 => tdT m d c.val i.val) -∗ bigSep Finset.univ fun i : Fin 16 => tdT m d c.val i.val))
  iintro H; imodintro
  isplitl [H]; · iexact H
  iintro H; iexact H

/-! ## The launch theorem's obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem cI_eq (c : Fin (grid0.bound 0)) (s : Fin (grid0.bound 1)) : cI c.val s.val = coordsV c s := by
  funext a
  match a with
  | 0 => exact Fin.ext (Nat.mod_eq_of_lt c.isLt)
  | 1 => exact Fin.ext (Nat.mod_eq_of_lt s.isLt)

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _) bX (Memref.isWhole_whole _) b0 (Memref.isWhole_whole _) b1 (Memref.isWhole_whole _) bI (Memref.isWhole_whole _) cc0_scratch4 cc0_scratch5 cc0_scratch6 cc0_scratch7 cc0_scratch8 cc0_scratch9 cc0_scoped0) ⟨⟩ c s := rfl

/-- A tile's end, in the launch theorem's form. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the proof asks of the launch memory: every word of the index table is below 256. -/
def PreOK : Prop := ∀ (d : Dev nD) (j : S16x16.Idx), (iOf m d j).toNat < 256

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_body (xOf m d) (iOf m d) (gOf m d) d (coordsV ⟨_, hc.1⟩ ⟨_, hc.2⟩) O W (hpre d) hO (qT c.val i.val) (qT c.val i.val)
  have e : coordsV ⟨_, hc.1⟩ ⟨_, hc.2⟩ = cI c.val i.val := (cI_eq ⟨_, hc.1⟩ ⟨_, hc.2⟩).symm
  refine BIBase.Entails.trans ?_ (h.trans (wp_mono frame _ _ fun _ => ?_))
  · have hg : (P m).go 0 d c i ⊢ (tileGo (xOf m d) (iOf m d) (gOf m d) d (coordsV ⟨_, hc.1⟩ ⟨_, hc.2⟩) (qT c.val i.val) (qT c.val i.val) : sProp 𝕄) := by
      rw [e]; exact BI.Entails.refl _
    iintro ⟨Hl, -, Hg, Hb, Hs, HO⟩
    isplitl [Hl]; · iexact Hl
    isplitl [Hg]; · iapply hg; iexact Hg
    isplitl [Hb]; · iexact Hb
    isplitl [Hs]; · iexact Hs
    iexact HO
  · have hg : (tileTd (xOf m d) (iOf m d) d (coordsV ⟨_, hc.1⟩ ⟨_, hc.2⟩) (qT c.val i.val) (qT c.val i.val) : sProp 𝕄) ⊢ (P m).td 0 d c i := by
      rw [e]; exact BI.Entails.refl _
    exact (sep_mono_left hg).trans obl_post

/-! ## The arrays dealt to the tiles and gathered back -/

/-- Sums over the grid's two levels are over its pairs. -/
theorem bigSep_grid (Φ : ℕ → ℕ → sProp 𝕄) :
    (bigSep Finset.univ fun c : Fin 2 => bigSep Finset.univ fun i : Fin 16 => Φ c.val i.val) = bigSep Finset.univ fun p : Fin 2 × Fin 16 => Φ p.1.val p.2.val :=
  (BI.bigSep_univ_prod (fun p : Fin 2 × Fin 16 => Φ p.1.val p.2.val)).symm

/-- An array held whole, as a remainder and one read share per tile. -/
theorem deal (ℓ : Loc nD τ sig) (f : Buf (Elt F) ℓ) :
    (ℓ ↦{fullShare} f : sProp 𝕄) ⊣⊢ iprop((ℓ ↦{Transfers.shareDrop fullShare 32} f)
      ∗ bigSep Finset.univ fun p : Fin 2 × Fin 16 => ℓ ↦{qT p.1.val p.2.val} f) := by
  have h := Transfers.pointsTo_toks (nD := nD) (τ := τ) (sig := sig) (Ix := HIx 1) (Val := Elt F) (Name := ℕ) (U := UU) (Lvl := ℕ) (ℓ := ℓ) (S := Finset.univ) (f := f) fullShare 32
  rw [BI.bigSep_univ_equiv (finProdFinEquiv (m := 2) (n := 16))] at h
  exact h

theorem s0_cI (c : Fin 2) (i : Fin 16) : s0 (cI c.val i.val) = 140 * i.val + 70 * c.val := by
  have h0 : (Fin.ofNat 2 c.val : Fin 2).val = c.val := Nat.mod_eq_of_lt c.isLt
  have h1 : (Fin.ofNat 16 i.val : Fin 16).val = i.val := Nat.mod_eq_of_lt i.isLt
  show 140 * (Fin.ofNat 16 i.val : Fin 16).val + 70 * (Fin.ofNat 2 c.val : Fin 2).val = _
  rw [h0, h1]

/-- The tiles' rows are all the rows. -/
theorem rows_cover : (Finset.univ : Finset (Fin 2 × Fin 16)).biUnion (fun p => (rows (s0 (cI p.1.val p.2.val)) (s0 (cI p.1.val p.2.val) + 70) : Finset S2240x16x128.Idx)) = Finset.univ := by
  refine Finset.eq_univ_iff_forall.mpr fun y => ?_
  have hy : (y 0).val < 2240 := (y 0).isLt
  refine Finset.mem_biUnion.mpr ⟨(⟨(y 0).val % 140 / 70, by omega⟩, ⟨(y 0).val / 140, by omega⟩), Finset.mem_univ _, ?_⟩
  rw [mem_rows, s0_cI]
  dsimp only
  omega

/-- The result array whole is the tiles' rows of it. -/
theorem deal_rows (d : Dev nD) (f : S2240x16x128.Idx → Elt F .f32) :
    ((SparseCore.T d).loc main_v2 ↦{fullShare} f : sProp 𝕄)
      = bigSep Finset.univ fun p : Fin 2 × Fin 16 => (SparseCore.T d).loc main_v2 ↦[(rows (s0 (cI p.1.val p.2.val)) (s0 (cI p.1.val p.2.val) + 70) : Finset S2240x16x128.Idx)]{fullShare} f := by
  rw [← pointsTo_biUnion Finset.univ (ℓ := (SparseCore.T d).loc main_v2) (fun p : Fin 2 × Fin 16 => (rows (s0 (cI p.1.val p.2.val)) (s0 (cI p.1.val p.2.val) + 70) : Finset S2240x16x128.Idx))]
  · rw [rows_cover]
  · rintro ⟨c, i⟩ - ⟨c', i'⟩ - hne
    have hc := c.isLt
    have hc' := c'.isLt
    rw [s0_cI, s0_cI]
    rcases Nat.lt_trichotomy (140 * i.val + 70 * c.val) (140 * i'.val + 70 * c'.val) with h | h | h
    · exact rows_disjoint (by dsimp only; omega)
    · exact absurd (Prod.ext (Fin.ext (show c.val = c'.val by omega)) (Fin.ext (show i.val = i'.val by omega))) hne
    · exact (rows_disjoint (by dsimp only; omega)).symm

/-- What stays with the TensorCore while the call runs. -/
abbrev kept (d : Dev nD) : sProp 𝕄 :=
  iprop(((SparseCore.T d).loc main_v1 ↦{Transfers.shareDrop fullShare 32} xOf m d) ∗ ((SparseCore.T d).loc main_arg1 ↦{Transfers.shareDrop fullShare 32} iOf m d))

theorem st_eq (d : Dev nD) : (bigSep Finset.univ fun c : Fin ((K (F := F)).nCore 0) => (P m).st 0 d c)
    = bigSep Finset.univ fun p : Fin 2 × Fin 16 => goT m d p.1.val p.2.val :=
  bigSep_grid (goT m d)
theorem dn_eq (d : Dev nD) : (bigSep Finset.univ fun c : Fin ((K (F := F)).nCore 0) => (P m).dn 0 d c)
    = bigSep Finset.univ fun p : Fin 2 × Fin 16 => tdT m d p.1.val p.2.val :=
  bigSep_grid (tdT m d)

theorem deal_in (d : Dev nD) :
    iprop(((SparseCore.T d).loc main_v1 ↦{fullShare} xOf m d) ∗ ((SparseCore.T d).loc main_arg1 ↦{fullShare} iOf m d) ∗ ((SparseCore.T d).loc main_v2 ↦{fullShare} gOf m d))
      ⊢ iprop(kept m d ∗ bigSep Finset.univ fun c : Fin ((K (F := F)).nCore 0) => (P m).st 0 d c) := by
  rw [st_eq, deal_rows]
  show _ ⊢ iprop(kept m d ∗ bigSep Finset.univ fun p : Fin 2 × Fin 16 => iprop(((SparseCore.T d).loc main_v1 ↦{qT p.1.val p.2.val} xOf m d) ∗ ((SparseCore.T d).loc main_arg1 ↦{qT p.1.val p.2.val} iOf m d)
    ∗ ((SparseCore.T d).loc main_v2 ↦[(rows (s0 (cI p.1.val p.2.val)) (s0 (cI p.1.val p.2.val) + 70) : Finset S2240x16x128.Idx)]{fullShare} gOf m d)))
  rw [bigSep_sep', bigSep_sep']
  iintro ⟨Hx, Hi, Ho⟩
  ihave Hx := (deal _ _).1 $$ Hx
  ihave Hi := (deal _ _).1 $$ Hi
  icases Hx with ⟨Hx, Hxs⟩
  icases Hi with ⟨Hi, His⟩
  isplitl [Hx Hi]
  · isplitl [Hx] <;> iassumption
  isplitl [Hxs]; · iexact Hxs
  isplitl [His] <;> iassumption

theorem deal_out (d : Dev nD) :
    iprop(kept m d ∗ bigSep Finset.univ fun c : Fin ((K (F := F)).nCore 0) => (P m).dn 0 d c)
      ⊢ iprop(((SparseCore.T d).loc main_v1 ↦{fullShare} xOf m d) ∗ ((SparseCore.T d).loc main_arg1 ↦{fullShare} iOf m d) ∗ ((SparseCore.T d).loc main_v2 ↦{fullShare} gout (xOf m d) (iOf m d))) := by
  rw [dn_eq, deal_rows]
  show iprop(kept m d ∗ bigSep Finset.univ fun p : Fin 2 × Fin 16 => iprop(((SparseCore.T d).loc main_v1 ↦{qT p.1.val p.2.val} xOf m d) ∗ ((SparseCore.T d).loc main_arg1 ↦{qT p.1.val p.2.val} iOf m d)
    ∗ ((SparseCore.T d).loc main_v2 ↦[(rows (s0 (cI p.1.val p.2.val)) (s0 (cI p.1.val p.2.val) + 70) : Finset S2240x16x128.Idx)]{fullShare} gout (xOf m d) (iOf m d)))) ⊢ _
  rw [bigSep_sep', bigSep_sep']
  iintro ⟨⟨Hx, Hi⟩, Hxs, His, Ho⟩
  isplitl [Hx Hxs]; · iapply (deal _ _).2; isplitl [Hx] <;> iassumption
  isplitl [Hi His]; · iapply (deal _ _).2; isplitl [Hi] <;> iassumption
  iexact Ho

/-! ## The launch element -/

/-- The pipeline's rounds library, in the middle of the algebra. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

abbrev adm : (p : Fin 1) → (pcfgs (F := F) p).Adm := fun p => (cfgs p).toPCfg_adm

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch deals the TensorCore of device `d` for its region. -/
abbrev G (d : Dev nD) : sProp 𝕄 :=
  iprop(Pipeline.cellsGhost (Pipeline.pin (pcfgs (F := F)) adm) EP 0 d ∗ Pipeline.toksInit (Pipeline.pin (pcfgs (F := F)) adm) EP 0 d)

theorem own_EP (x : UP) : (BI.own (((Emb.inl : Emb UP (UP × Counters)).trans embR) x) : sProp 𝕄) ⊢ BI.own ((EP (F := F)) x) := by
  unfold EP; exact BI.Entails.refl _

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave HR := (own_pair_emb _ _ _) $$ HR
  icases HR with ⟨HR, -⟩
  ihave HR := (own_EP _) $$ HR
  imod (Pipeline.fund_ghost (cfgs := Pipeline.pin (pcfgs (F := F)) adm) (ER := EP) (hinj := cellOf_inj)) $$ HR with ⟨Hg, Ht⟩
  imodintro
  isplitl [HH]; · iexact HH
  isplitl [Hg Ht]
  · rw [bigSep_sep']
    simp only [bigSep_univ_of_subsingleton (0 : Fin 1)]
    isplitl [Hg] <;> iassumption
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

/-- The TensorCore's unscoped arrays. -/
abbrev S9 : Finset (DevRef τ sig) := {a0', a1', w0', w1', w2', w3', w4', w5', w6'}

/-- The unscoped buffers at a valuation are those arrays held at it. -/
theorem unscoped_held (d : Dev nD) (W : Valuation τ sig (Elt F)) :
    (unscopedBufs d (fun b => W b) : sProp 𝕄) = held (SparseCore.T d) S9 W := by
  unfold unscopedBufs held S9
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The three arrays of the call, beside the rest. -/
theorem held_call (d : Dev nD) (W : Valuation τ sig (Elt F)) :
    (held (SparseCore.T d) S9 W : sProp 𝕄) = iprop(((SparseCore.T d).loc main_v1 ↦{fullShare} W w1') ∗ ((SparseCore.T d).loc main_arg1 ↦{fullShare} W a1') ∗ ((SparseCore.T d).loc main_v2 ↦{fullShare} W w2')
      ∗ held (SparseCore.T d) {a0', w0', w3', w4', w5', w6'} W) := by
  unfold held
  rw [show S9 = insert w1' (insert a1' (insert w2' {a0', w0', w3', w4', w5', w6'})) by decide,
    SparseCore.bigSep_insert' (by decide), SparseCore.bigSep_insert' (by decide), SparseCore.bigSep_insert' (by decide)]

/-- The arrays the claims speak of, beside the rest. -/
theorem held_end (d : Dev nD) (W : Valuation τ sig (Elt F)) :
    (held (SparseCore.T d) S9 W : sProp 𝕄) = iprop(((SparseCore.T d).loc main_arg0 ↦{fullShare} W a0') ∗ ((SparseCore.T d).loc main_arg1 ↦{fullShare} W a1') ∗ ((SparseCore.T d).loc main_v6 ↦{fullShare} W w6')
      ∗ held (SparseCore.T d) {w0', w1', w2', w3', w4', w5'} W) := by
  unfold held
  rw [show S9 = insert a0' (insert a1' (insert w6' {w0', w1', w2', w3', w4', w5'})) by decide,
    SparseCore.bigSep_insert' (by decide), SparseCore.bigSep_insert' (by decide), SparseCore.bigSep_insert' (by decide)]

theorem V2_a1 (d : Dev nD) : V2 m d a1' = iOf m d := by
  unfold V2 V1
  rw [(op1 (F := F)).result_of_not_mem _ (b := a1') (show a1' ∉ ({w1'} : Finset (DevRef τ sig)) by decide),
    (op0 (F := F)).result_of_not_mem _ (b := a1') (show a1' ∉ ({w0'} : Finset (DevRef τ sig)) by decide)]
  rfl

theorem V7_of (d : Dev nD) (b : DevRef τ sig) (h : b ∉ ({w0', w1', w2', w3', w4', w5', w6'} : Finset (DevRef τ sig))) : V7 m d b = m (d, b) := by
  simp only [Finset.mem_insert, Finset.mem_singleton, not_or] at h
  obtain ⟨h0, h1, h2, h3, h4, h5, h6⟩ := h
  unfold V7 V6 V5 V4 V3 V2 V1
  rw [(op6 (F := F)).result_of_not_mem _ (b := b) (show b ∉ ({w6'} : Finset (DevRef τ sig)) from fun h => h6 (Finset.mem_singleton.mp h)),
    (op5 (F := F)).result_of_not_mem _ (b := b) (show b ∉ ({w5'} : Finset (DevRef τ sig)) from fun h => h5 (Finset.mem_singleton.mp h)),
    (op4 (F := F)).result_of_not_mem _ (b := b) (show b ∉ ({w4'} : Finset (DevRef τ sig)) from fun h => h4 (Finset.mem_singleton.mp h)),
    Function.update_of_ne h3, Function.update_of_ne h2,
    (op1 (F := F)).result_of_not_mem _ (b := b) (show b ∉ ({w1'} : Finset (DevRef τ sig)) from fun h => h1 (Finset.mem_singleton.mp h)),
    (op0 (F := F)).result_of_not_mem _ (b := b) (show b ∉ ({w0'} : Finset (DevRef τ sig)) from fun h => h0 (Finset.mem_singleton.mp h))]
  rfl

/-- The region's valuations. -/
abbrev VVr : (c : Dev nD) → (b : Ref sig .tc) → Buf (Elt F) ((c : Thread nD τ).loc b) := fun d b => V3 m d b
abbrev Vpr : (c : Dev nD) → (b : Ref sig .tc) → Buf (Elt F) ((c : Thread nD τ).loc b) := fun d b => V4 m d b

theorem Vpr_out (c : Dev nD) : Vpr m c main_v3 = tcOut (VVr m) c := Function.update_self _ _ _
theorem Vpr_ne (c : Dev nD) (b : Ref sig .tc) (h : b ≠ main_v3) : Vpr m c b = VVr m c b :=
  Function.update_of_ne (fun e => h (Proc.devRef_injective _ e)) _ _

/-- What @main leaves the claims: the arguments at their launch contents, the result at its value. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_v6 ↦{fullShare} V7 m d w6'))

/-- The arrays after the call, as the region takes them. -/
theorem held_after (d : Dev nD) :
    iprop(((SparseCore.T d).loc main_v1 ↦{fullShare} xOf m d) ∗ ((SparseCore.T d).loc main_arg1 ↦{fullShare} iOf m d) ∗ ((SparseCore.T d).loc main_v2 ↦{fullShare} gout (xOf m d) (iOf m d))
        ∗ held (SparseCore.T d) {a0', w0', w3', w4', w5', w6'} (V2 m d))
      ⊢ (unscopedBufs d (VVr m d) : sProp 𝕄) := by
  have e1 : V3 m d w1' = xOf m d := Function.update_of_ne (show w1' ≠ w2' by decide) _ _
  have e2 : V3 m d a1' = iOf m d := (Function.update_of_ne (show a1' ≠ w2' by decide) _ _).trans (V2_a1 m d)
  have e3 : V3 m d w2' = gout (xOf m d) (iOf m d) := Function.update_self _ _ _
  have e4 : (held (SparseCore.T d) {a0', w0', w3', w4', w5', w6'} (V3 m d) : sProp 𝕄) = held (SparseCore.T d) {a0', w0', w3', w4', w5', w6'} (V2 m d) := by
    unfold held
    refine bigSep_congr fun b hb => ?_
    have hb' : b ≠ w2' := by rintro rfl; exact absurd hb (by decide)
    rw [show V3 m d b = V2 m d b from Function.update_of_ne hb' _ _]
  rw [show (unscopedBufs d (VVr m d) : sProp 𝕄) = held (SparseCore.T d) S9 (V3 m d) from unscoped_held d (V3 m d), held_call d (V3 m d), e1, e2, e3, e4]

/-- After the one call the TensorCore owes nothing: its record of waits taken out of its state, and put back. -/
theorem tcSt_owes (d : Dev nD) :
    (K (F := F)).tcSt (Val := Elt F) (Name := ℕ) (U := UU) EH d 1 ⊢ (iprop(owesTc (F := F) d ∗ (owesTc (F := F) d -∗ (K (F := F)).tcSt EH d 1)) : sProp 𝕄) := by
  unfold SparseCore.Cfg.tcSt
  rw [(K (F := F)).Otc_end d (le_refl 1)]
  iintro ⟨HO, Hr⟩
  isplitl [HO]; · iexact HO
  iintro HO
  isplitl [HO] <;> iassumption

/-- The region, called by @main: from the boundary and the arrays as the SparseCore call left them, to the arrays as
    the rest of @main finds them. -/
theorem wp_region [∀ e, Nonempty (Elt F e)] (d : Dev nD) (Q : PUnit → sProp 𝕄) :
    iprop((iprop(boundary (d : Thread nD τ) ∗ unscopedBufs d (Vpr m d) ∗ owesTc (F := F) d) -∗ Q ⟨⟩)
        ∗ boundary (d : Thread nD τ) ∗ (unscopedBufs d (VVr m d) ∗ owesTc (F := F) d) ∗ levAts (K (F := F)).L (K (F := F)).lev ∗ G (F := F) d)
      ⊢ wp frame (wpE ((K (F := F)).defs (D (F := F))) 𝒱 (SparseCore.T d) none) Set.univ (Prog.lift (.customCall (SparseCore.inner (Pipeline.entry 0)) ())) Q := by
  have h2 := (K (F := F)).wp_liftProg (D (F := F)) 𝒱 (SparseCore.T d : Thread nD τ) (Set.univ : Set ℕ) none
    (.op (.customCall (Pipeline.entry 0) ()) fun _ => .ret ⟨⟩ : Prog (TpuEff nD τ sig (Elt F) (ΛP (F := F)) .tc) PUnit) (U := UU) Q
  refine BIBase.Entails.trans ?_ h2
  have h := (reg (VVr m) adm (Vpr m) (Vpr_out m) (Vpr_ne m)).wp (pcfgs (F := F)) adm (pdats (VVr m) adm) none cellOf_inj EP (defs₀ (F := F)) 𝒱₀ (K (F := F)).L (K (F := F)).lev
    d none (fun _ hu => nomatch hu) (fun _ => .ret ⟨⟩) Q
  rw [reg_pre, reg_post] at h
  refine BIBase.Entails.trans ?_ h
  iintro ⟨HQ, Hb, Hp, Hl, Hg, Ht⟩
  isplitl [HQ]
  · iintro H
    rw [wp_ret]; imodintro
    iapply HQ; iexact H
  isplitl [Hb]; · iexact Hb
  isplitl [Hp]; · iexact Hp
  isplitl [Hl]; · iexact Hl
  isplitl [Hg] <;> iassumption

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) S9 (V0 m d) from unscoped_held d (V0 m d)]
  simp only [main, wp_bind, wp_pure]
  iintro ⟨#Hctx, Hst, ⟨Hb, Hheld, Hts, -⟩, ⟨Hg, Ht⟩⟩
  -- the transpose and the reshape
  iapply (wp_hlo_within 𝒱 (SparseCore.T d) none Set.univ (op := op0) (S := S9) (show ({a0', w0'} : Finset (DevRef τ sig)) ⊆ S9 by decide) (V := V0 m d)) $$ [Hb Hheld]
  · isplitl [Hb] <;> iassumption
  iintro ⟨Hb, Hheld⟩
  rw [wp_ret]; imodintro
  iapply (wp_hlo_within 𝒱 (SparseCore.T d) none Set.univ (op := op1) (S := S9) (show ({w0', w1'} : Finset (DevRef τ sig)) ⊆ S9 by decide) (V := (op0 (F := F)).result (V0 m d))) $$ [Hb Hheld]
  · isplitl [Hb] <;> iassumption
  iintro ⟨Hb, Hheld⟩
  rw [wp_ret]; imodintro
  -- the SparseCore call
  ihave Hh := (Entails.of_eq (show (held (SparseCore.T d) S9 ((op1 (F := F)).result ((op0 (F := F)).result (V0 m d))) : sProp 𝕄) = _ from held_call d (V2 m d))) $$ Hheld
  icases Hh with ⟨Hx, Hi, Ho, Hrest⟩
  rw [V2_a1]
  ihave Hd := (deal_in m d) $$ [Hx Hi Ho]
  · isplitl [Hx]; · iexact Hx
    isplitl [Hi] <;> iassumption
  icases Hd with ⟨Hk, Hd⟩
  iapply ((K (F := F)).wp_run (D (F := F)) 𝒱 (EH := EH) (P := P m) κ d 0) $$ [Hst Hd Hk Hrest Hb Hts Hg Ht]
  isplitr; · iexact Hctx
  isplitl [Hst]; · iexact Hst
  isplitl [Hd]; · iexact Hd
  iintro ⟨Hst, Hdn⟩
  ihave Hd := (deal_out m d) $$ [Hk Hdn]
  · isplitl [Hk] <;> iassumption
  icases Hd with ⟨Hx, Hi, Ho⟩
  ihave Hub := (held_after m d) $$ [Hx Hi Ho Hrest]
  · isplitl [Hx]; · iexact Hx
    isplitl [Hi]; · iexact Hi
    isplitl [Ho] <;> iassumption
  -- the TensorCore's region
  ihave Hst := (show (K (F := F)).tcSt (Val := Elt F) (Name := ℕ) (U := UU) EH d ((0 : Fin 1).val + 1) ⊢ _ from tcSt_owes d) $$ Hst
  icases Hst with ⟨HO, Hst⟩
  iapply (wp_region m d)
  isplitr [Hb Hub HO Hg Ht]; swap
  · isplitl [Hb]; · iexact Hb
    isplitl [Hub HO]
    · isplitl [Hub] <;> iassumption
    isplitr
    · iapply (SparseCore.Cfg.ctx_levAts (K := K (F := F)) κ); iexact Hctx
    isplitl [Hg] <;> iassumption
  iintro ⟨Hb, Hub, HO⟩
  ihave Hst := Hst $$ HO
  ihave Hheld := (Entails.of_eq (show (unscopedBufs d (Vpr m d) : sProp 𝕄) = held (SparseCore.T d) S9 (V4 m d) from unscoped_held d (V4 m d))) $$ Hub
  -- the concatenation, the reshape and the transpose
  iapply (wp_hlo_within 𝒱 (SparseCore.T d) none Set.univ (op := op4) (S := S9) (show ({w2', w3', w4'} : Finset (DevRef τ sig)) ⊆ S9 by decide) (V := V4 m d)) $$ [Hb Hheld]
  · isplitl [Hb] <;> iassumption
  iintro ⟨Hb, Hheld⟩
  rw [wp_ret]; imodintro
  iapply (wp_hlo_within 𝒱 (SparseCore.T d) none Set.univ (op := op5) (S := S9) (show ({w4', w5'} : Finset (DevRef τ sig)) ⊆ S9 by decide) (V := (op4 (F := F)).result (V4 m d))) $$ [Hb Hheld]
  · isplitl [Hb] <;> iassumption
  iintro ⟨Hb, Hheld⟩
  rw [wp_ret]; imodintro
  iapply (wp_hlo_within 𝒱 (SparseCore.T d) none Set.univ (op := op6) (S := S9) (show ({w5', w6'} : Finset (DevRef τ sig)) ⊆ S9 by decide) (V := (op5 (F := F)).result ((op4 (F := F)).result (V4 m d)))) $$ [Hb Hheld]
  · isplitl [Hb] <;> iassumption
  iintro ⟨Hb, Hheld⟩
  rw [wp_ret]; imodintro
  ihave Hh := (Entails.of_eq (show (held (SparseCore.T d) S9 ((op6 (F := F)).result ((op5 (F := F)).result ((op4 (F := F)).result (V4 m d)))) : sProp 𝕄) = _ from held_end d (V7 m d))) $$ Hheld
  icases Hh with ⟨H0, H1, H6, -⟩
  rw [V7_of m d a0' (by decide), V7_of m d a1' (by decide)]
  imodintro
  isplitl [Hst]; · iexact Hst
  isplitl [H0 H1 H6]
  · isplitl [H0]; · iexact H0
    isplitl [H1] <;> iassumption
  isplitl [Hb] <;> iassumption

/-! ## The program's run -/

/-- What a final state has of device `d`: the arguments as they were, the result at its value. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_v6) = V7 m d w6'

theorem hfin (d : Dev nD) (s' : Phys nD τ sig (Elt F)) : iprop(FIN m d ∗ SI s') ⊢ (⌜fq m d s'⌝ : sProp 𝕄) := by
  iintro ⟨⟨H0, H1, H6⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := (SparseCore.T d).loc main_v6) (I := Finset.univ) (q := fullShare) (f := V7 m d w6')) $$ [HSI H6]
  · isplitl [HSI] <;> iassumption
  icases H with %h6
  ipureintro
  exact ⟨funext fun i => h0 i (Finset.mem_univ i), funext fun i => h1 i (Finset.mem_univ i), funext fun i => h6 i (Finset.mem_univ i)⟩

def QC : PUnit × MemSt nD τ sig (Elt F) → Prop := fun r =>
  (∀ c : Dev nD, r.2.mem ((SparseCore.T c).loc main_arg0) = m ((SparseCore.T c).loc main_arg0) ∧ r.2.mem ((SparseCore.T c).loc main_arg1) = m ((SparseCore.T c).loc main_arg1)
    ∧ r.2.mem ((SparseCore.T c).loc main_v6) = V7 m c w6') ∧ r.2.sem = fun _ => 0

/-- The program runs, from any launch memory whose index words are all below 256: the arguments as they were, the result
    at its value, every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

end Cert.Proof.KI

end
-- ==== Proof.Frames.lean ====
/-
  The frames: what the two preconditions say of the index matrix, and each program's run with its arguments kept and
  every counter back at zero.
-/
module

public import proofs.«01_k».proof.Proof.Launch
public import proofs.«01_k».proof.Proof.KLaunch
public import proofs.«01_k».proof.Proof.Gen.ReferenceIdeal.Run
public import proofs.«01_k».proof.Proof.Gen.Pre_in_range
public import proofs.«01_k».proof.Proof.Gen.Pre_cosets
public import proofs.«01_k».proof.Defs
public import Idealize.ShloMosaic.Lib.ReduceAll
public import Idealize.ShloMosaic.PureOps.Ideal.Laws
public import Idealize.ShloMosaic.Lib.Quiescent

@[expose] public section

noncomputable section

namespace Cert.Proof.Frames

open Idealize.ShloMosaic Idealize.ShloMosaic.ValueIdx Idealize.SL.Sem

/-- A one-bit word made of a truth value is 1 exactly when the value is true. -/
theorem ofBool_eq_one (p : Bool) : (BitVec.ofBool p = 1#1) ↔ p = true := by cases p <;> decide

/-- The bitwise and of two truth values' words is the word of their conjunction. -/
theorem and_ofBool (p q : Bool) : IntOp.andi (BitVec.ofBool p) (BitVec.ofBool q) = BitVec.ofBool (p && q) := by
  cases p <;> cases q <;> decide

/-- A word that is at least 0 and below 256, both signed, is below 256 as a natural number. -/
theorem lt_of_range (v : BitVec 32) (e : IntOp.andi (IntOp.cmpi .sge v 0#32) (IntOp.cmpi .slt v 256#32) = 1#1) : v.toNat < 256 := by
  simp only [IntOp.cmpi, and_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton (⟨0, ![]⟩ : Shape).Idx := ⟨fun _ _ => funext fun k => k.elim0⟩

/-- `in_range` says that every index is below 256. -/
theorem range_of_pre {F : FTy → Type} [FloatOps F] [Cert.Pre_in_range.Facts] (x : FVec F Pre_in_range.S16x128x196x256 .f32)
    (I : IVec Pre_in_range.S16x16 32) (h : Cert.Pre_in_range.fn (F := F) x I = fun _ => 1#1) (j : Pre_in_range.S16x16.Idx) : (I j).toNat < 256 := by
  have e := Host.reduce_andi_all (t := Pre_in_range.S_) _ _ _ _ _ (congrFun h ix0) j
  exact lt_of_range _ e

/-- The remainder by 16 of the sum of two coordinates, as the predicate's operations compute it. -/
theorem rem_word {F : FTy → Type} [FloatOps F] [Cert.Pre_cosets.Facts] (v : IVec Pre_cosets.S16x16 32) (j : Pre_cosets.S16x16.Idx) (n : ℕ) (hn : n < 32)
    (hv : v j = BitVec.ofNat 32 n) : Cert.Pre_cosets.fn_remainder (F := F) v (constantI Pre_cosets.S_ 32 16#32) j = BitVec.ofNat 32 (n % 16) := by
  simp only [Cert.Pre_cosets.fn_remainder, Cert.Pre_cosets.fn_where, id, select, andi, addi, cmpi, Host.remsi, broadcastInDim, constantI, hv]
  clear hv
  interval_cases n <;> rfl

/-- `cosets` says that the index at (k, d) is 16 k + (k + d) mod 16. -/
theorem cosets_of_pre {F : FTy → Type} [FloatOps F] [Cert.Pre_cosets.Facts] (x : FVec F Pre_cosets.S16x128x196x256 .f32)
    (I : IVec Pre_cosets.S16x16 32) (h : Cert.Pre_cosets.fn (F := F) x I = fun _ => 1#1) (k d : Fin 16) :
    (I (ix2 k d)).toNat = 16 * k.val + (k.val + d.val) % 16 := by
  have e := Host.reduce_andi_all (t := Pre_cosets.S_) _ _ _ _ _ (congrFun h ix0) (ix2 k d)
  have e2 := (ofBool_eq_one _).1 e
  rw [beq_iff_eq] at e2
  rw [e2]
  have h4 : addi (iotaInDim Pre_cosets.S16x16 32 0) (iotaInDim Pre_cosets.S16x16 32 1) (ix2 k d) = BitVec.ofNat 32 (k.val + d.val) := by
    show BitVec.ofNat 32 k.val + BitVec.ofNat 32 d.val = _
    rw [BitVec.ofNat_add]
  have h5 := rem_word (F := F) _ _ _ (by omega) h4
  show (BitVec.ofNat 32 k.val * 16#32 + _).toNat = _
  rw [h5, BitVec.toNat_add, BitVec.toNat_mul, BitVec.toNat_ofNat, BitVec.toNat_ofNat, BitVec.toNat_ofNat]
  omega

/-! ## The frames -/

/-- The kernel as printed: under `in_range` it runs, keeps its arguments and leaves every counter at zero. -/
theorem frame_kernel : Cert.quiescent_Kernel := fun m g hpre =>
  (θ_run Cert.Kernel.defs _ _).mono (fun _ h => ⟨fun c => ⟨(h.1 c).1, (h.1 c).2.1⟩, h.2⟩)
    (KK.run_main (F := Bits) m g fun d j => range_of_pre _ _ (hpre d) j)

/-- The idealized kernel, likewise. -/
theorem frame_ideal : Cert.quiescent_KernelIdeal := fun m g hpre =>
  (θ_run Cert.KernelIdeal.defs _ _).mono (fun _ h => ⟨fun c => ⟨(h.1 c).1, (h.1 c).2.1⟩, h.2⟩)
    (KI.run_main (F := Ideal) m g fun d j => range_of_pre _ _ (hpre d) j)

/-- Under `cosets` every index is below 256. -/
theorem ok_of_cosets (m : (ℓ : Loc KernelIdeal.nD KernelIdeal.τ KernelIdeal.sig) → Buf (Elt Ideal) ℓ) (hpre : Cert.Pre_KernelIdeal_cosets m) :
    KI.PreOK (F := Ideal) m := by
  intro d j
  obtain ⟨k, l, rfl⟩ : ∃ k l : Fin 16, j = ix2 k l := ⟨j 0, j 1, by funext a; fin_cases a <;> rfl⟩
  exact lt_of_eq_of_lt (cosets_of_pre _ _ (hpre d) k l) (by omega)

/-- The idealized kernel under `cosets`, which implies the range. -/
theorem frame_ideal_cosets : Cert.quiescent_KernelIdeal_pre_cosets := fun m g hpre =>
  (θ_run Cert.KernelIdeal.defs _ _).mono (fun _ h => ⟨fun c => ⟨(h.1 c).1, (h.1 c).2.1⟩, h.2⟩)
    (KI.run_main (F := Ideal) m g (ok_of_cosets m hpre))

/-- The reference: host operations only, so it has no counters. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference on the inputs that `cosets` admits. -/
theorem frame_ref_cosets : Cert.quiescent_ReferenceIdeal_pre_cosets := fun m g _ => frame_ref m g trivial

end Cert.Proof.Frames

end
-- ==== Proof.ValTC.lean ====
/-
  What the TensorCore's block computes: each of its four halvings read at an index, and the result as the maximum of the
  sixteen members of a coset.
-/
module

public import proofs.«01_k».proof.Proof.Region
public import Idealize.ShloMosaic.Lib.Pipeline.Value

@[expose] public section

noncomputable section

namespace Cert.Proof.Val

open Cert.KernelIdeal Cert.KernelIdeal.Gen
open Idealize.ShloMosaic Idealize.ShloMosaic.ValueIdx

variable {F : FTy → Type} [FloatOps F]

/-- A three-axis index shape [32, 128, n]. -/
abbrev Sh (n : ℕ) : Shape := ⟨3, ![32, 128, n]⟩

/-- A vector whose lanes are cut at `B` and swapped is the vector rotated by `B` lanes. -/
theorem rot_apply {α : Type} {A B L : ℕ} (hAB : A + B = L) (x : (Sh L).Idx → α) (h1 : (Sh L).Slices ![0, 0, B] (Sh A)) (h2 : (Sh L).Slices ![0, 0, 0] (Sh B))
    (hc : Shape.Concatenates [Sh A, Sh B] (Sh L) 2) (b : Fin 32) (r : Fin 128) (l l' : Fin L)
    (hl : l'.val = if l.val < A then l.val + B else l.val - A) :
    concatenate (Sh L) 2 [⟨Sh A, extractStridedSlice (Sh A) ![0, 0, B] x h1⟩, ⟨Sh B, extractStridedSlice (Sh B) ![0, 0, 0] x h2⟩] hc (ix3 b r l) = x (ix3 b r l') := by
  by_cases h : l.val < A
  · rw [if_pos h] at hl
    rw [concatenate_pair_apply_left 2 _ _ hc (ix3 b r l) rfl (ix3 b r ⟨l.val, h⟩) (by intro a; fin_cases a <;> rfl)]
    refine extractStridedSlice_apply _ x h1 _ _ ?_
    intro a
    fin_cases a
    · show b.val = 0 + b.val; omega
    · show r.val = 0 + r.val; omega
    · show l'.val = B + l.val; omega
  · rw [if_neg h] at hl
    have := l.isLt
    rw [concatenate_pair_apply_right 2 _ _ hc (ix3 b r l) rfl rfl (ix3 b r ⟨l.val - A, by omega⟩)
      (by intro a ha; fin_cases a <;> first | rfl | exact absurd rfl ha) (by show l.val - A + A = l.val; omega)]
    refine extractStridedSlice_apply _ x h2 _ _ ?_
    intro a
    fin_cases a
    · show b.val = 0 + b.val; omega
    · show r.val = 0 + r.val; omega
    · show l'.val = 0 + (l.val - A); omega

/-- The lane's place within its group of sixteen, compared with `t`, as the body's operations compute it. -/
def mask (w t : BitVec 32) : BitVec 1 :=
  let n : BitVec 32 := Scalar.select (Scalar.cmpi .eq 16#32 0#32) 1#32 16#32
  let q := IntOp.remsi .vector w n
  IntOp.cmpi .slt (Scalar.select (IntOp.andi (IntOp.xori (IntOp.cmpi .slt q 0#32) (Scalar.cmpi .slt n 0#32)) (IntOp.cmpi .ne q 0#32)) (IntOp.addi q n) q) t

/-- The mask is 1 exactly on the lanes whose place within their group is below `t`. -/
theorem mask_eq (l : Fin 128) : mask (BitVec.ofNat 32 l.val) 8#32 = (if l.val % 16 < 8 then 1#1 else 0#1)
    ∧ mask (BitVec.ofNat 32 l.val) 12#32 = (if l.val % 16 < 12 then 1#1 else 0#1)
    ∧ mask (BitVec.ofNat 32 l.val) 14#32 = (if l.val % 16 < 14 then 1#1 else 0#1)
    ∧ mask (BitVec.ofNat 32 l.val) 15#32 = (if l.val % 16 < 15 then 1#1 else 0#1) := by
  revert l
  decide

/-- A choice between two rotations by the mask is the rotation within the group. -/
theorem pick {α : Type} (c : BitVec 1) (p : Prop) [Decidable p] (hc : c = if p then 1#1 else 0#1) (a b : α) :
    Scalar.select c a b = if p then a else b := by
  subst hc
  by_cases h : p <;> simp [h, Scalar.select]

/-- One halving: the low half against the high half rotated by `s` lanes within each group of sixteen. The rotation is made of
    two whole-vector rotations, one for the lanes that stay inside their group and one for those that wrap. -/
theorem halve {L A s A' B' : ℕ} (hA : A + s = L) (hA' : A' + s = 16) (hB : A' + B' = L) (h16 : L % 16 = 0) (lo hi : FVec F (Sh L) .f32) (m : IVec (Sh L) 1)
    (h1 : (Sh L).Slices ![0, 0, s] (Sh A)) (h2 : (Sh L).Slices ![0, 0, 0] (Sh s)) (hc : Shape.Concatenates [Sh A, Sh s] (Sh L) 2)
    (h1' : (Sh L).Slices ![0, 0, B'] (Sh A')) (h2' : (Sh L).Slices ![0, 0, 0] (Sh B')) (hc' : Shape.Concatenates [Sh A', Sh B'] (Sh L) 2)
    (b : Fin 32) (r : Fin 128) (l q : Fin L) (hm : m (ix3 b r l) = if l.val % 16 < A' then 1#1 else 0#1)
    (hq : q.val = 16 * (l.val / 16) + (l.val % 16 + s) % 16) :
    maximumf lo (select m (concatenate (Sh L) 2 [⟨Sh A, extractStridedSlice (Sh A) ![0, 0, s] hi h1⟩, ⟨Sh s, extractStridedSlice (Sh s) ![0, 0, 0] hi h2⟩] hc)
      (concatenate (Sh L) 2 [⟨Sh A', extractStridedSlice (Sh A') ![0, 0, B'] hi h1'⟩, ⟨Sh B', extractStridedSlice (Sh B') ![0, 0, 0] hi h2'⟩] hc')) (ix3 b r l)
      = FloatOps.maximumf (lo (ix3 b r l)) (hi (ix3 b r q)) := by
  have hl := l.isLt
  have hs : Scalar.select (m (ix3 b r l)) (concatenate (Sh L) 2 [⟨Sh A, extractStridedSlice (Sh A) ![0, 0, s] hi h1⟩, ⟨Sh s, extractStridedSlice (Sh s) ![0, 0, 0] hi h2⟩] hc (ix3 b r l))
      (concatenate (Sh L) 2 [⟨Sh A', extractStridedSlice (Sh A') ![0, 0, B'] hi h1'⟩, ⟨Sh B', extractStridedSlice (Sh B') ![0, 0, 0] hi h2'⟩] hc' (ix3 b r l)) = hi (ix3 b r q) := by
    rw [pick _ _ hm]
    split
    · exact rot_apply hA hi h1 h2 hc b r l q (by rw [if_pos (by omega)]; omega)
    · exact rot_apply hB hi h1' h2' hc' b r l q (by rw [if_neg (by omega)]; omega)
  exact congrArg (FloatOps.maximumf (lo (ix3 b r l))) hs

/-- A block of lanes read at an index. -/
theorem lanes_apply {α : Type} {L n o : ℕ} (y : (Sh L).Idx → α) (h : (Sh L).Slices ![0, 0, o] (Sh n)) (b : Fin 32) (r : Fin 128) (l : Fin n) (p : Fin L)
    (hp : p.val = o + l.val) : extractStridedSlice (Sh n) ![0, 0, o] y h (ix3 b r l) = y (ix3 b r p) := by
  refine extractStridedSlice_apply _ y h _ _ ?_
  intro a
  fin_cases a
  · show b.val = 0 + b.val; omega
  · show r.val = 0 + r.val; omega
  · show p.val = o + l.val; omega

/-- The mask of lane `l`, its number written as a lane number of a three-axis vector is. -/
theorem mask_lane (n l : ℕ) (t : BitVec 32) : mask (BitVec.ofNat 32 (0 * n + l)) t = mask (BitVec.ofNat 32 l) t := by
  rw [Nat.zero_mul, Nat.zero_add]

/-- The first halving, 256 lanes to 128. -/
theorem stage1 (v : Vec F S32x128x256 .f32) (b : Fin 32) (r : Fin 128) (l : Fin 128) (p q : Fin 256) (hp : p.val = l.val)
    (hq : q.val = 128 + 16 * (l.val / 16) + (l.val % 16 + 8) % 16) :
    k1_pay2 v (ix3 b r l) = FloatOps.maximumf (v (ix3 b r p)) (v (ix3 b r q)) := by
  have hl := l.isLt
  refine (halve (L := 128) (A := 120) (s := 8) (A' := 8) (B' := 120) rfl rfl rfl rfl _ _ _ _ _ _ _ _ _ b r l ⟨16 * (l.val / 16) + (l.val % 16 + 8) % 16, by omega⟩
    ((mask_lane 128 l.val 8#32).trans (mask_eq l).1) rfl).trans ?_
  rw [lanes_apply (L := 256) (n := 128) _ _ b r l p (by omega), lanes_apply (L := 256) (n := 128) _ _ b r _ q (by show _ = _; simp only []; omega),
    shapeCast_apply _ _ _ (ix3 b r p) rfl, shapeCast_apply _ _ _ (ix3 b r q) rfl]

/-- The second and third halvings, 128 lanes to 32, of a vector given by its halves. -/
theorem stage23 (y : FVec F (Sh 128) .f32) (h0 : (Sh 128).Slices ![0, 0, 0] (Sh 64)) (h64 : (Sh 128).Slices ![0, 0, 64] (Sh 64))
    (b : Fin 32) (r : Fin 128) (l : Fin 32) (p0 p1 p2 p3 : Fin 128) (hp0 : p0.val = l.val)
    (hp1 : p1.val = 64 + 16 * (l.val / 16) + (l.val % 16 + 4) % 16)
    (hp2 : p2.val = 32 + 16 * (l.val / 16) + (l.val % 16 + 2) % 16)
    (hp3 : p3.val = 96 + 16 * (l.val / 16) + (l.val % 16 + 6) % 16) :
    k1_pay8 (extractStridedSlice (Sh 64) ![0, 0, 0] y h0) (extractStridedSlice (Sh 64) ![0, 0, 64] y h64) (Scalar.select (Scalar.cmpi .eq 16#32 0#32) 1#32 16#32)
      k1_pay5 k1_pay6 k1_pay7 (Scalar.cmpi .slt (Scalar.select (Scalar.cmpi .eq 16#32 0#32) 1#32 16#32) 0#32) (ix3 b r l)
      = FloatOps.maximumf (FloatOps.maximumf (y (ix3 b r p0)) (y (ix3 b r p1))) (FloatOps.maximumf (y (ix3 b r p2)) (y (ix3 b r p3))) := by
  have hl := l.isLt
  refine (halve (L := 32) (A := 30) (s := 2) (A' := 14) (B' := 18) rfl rfl rfl rfl _ _ _ _ _ _ _ _ _ b r l ⟨16 * (l.val / 16) + (l.val % 16 + 2) % 16, by omega⟩
    ((mask_lane 32 l.val 14#32).trans (mask_eq ⟨l.val, by omega⟩).2.2.1) rfl).trans ?_
  rw [lanes_apply (L := 64) (n := 32) _ _ b r l ⟨l.val, by omega⟩ (by show _ = _; simp only []; omega),
    lanes_apply (L := 64) (n := 32) _ _ b r _ ⟨32 + (16 * (l.val / 16) + (l.val % 16 + 2) % 16), by omega⟩ rfl]
  refine congrArg₂ FloatOps.maximumf
    ((halve (L := 64) (A := 60) (s := 4) (A' := 12) (B' := 52) rfl rfl rfl rfl _ _ _ _ _ _ _ _ _ b r _ ⟨16 * (l.val / 16) + (l.val % 16 + 4) % 16, by omega⟩
      ((mask_lane 64 _ 12#32).trans (mask_eq ⟨l.val, by omega⟩).2.1) rfl).trans ?_)
    ((halve (L := 64) (A := 60) (s := 4) (A' := 12) (B' := 52) rfl rfl rfl rfl _ _ _ _ _ _ _ _ _ b r _ ⟨32 + 16 * (l.val / 16) + (l.val % 16 + 6) % 16, by omega⟩
      ((mask_lane 64 _ 12#32).trans (mask_eq ⟨32 + (16 * (l.val / 16) + (l.val % 16 + 2) % 16), by omega⟩).2.1) (by show _ = _; simp only []; omega)).trans ?_)
  · rw [lanes_apply (L := 128) (n := 64) _ _ b r _ p0 (by show _ = _; simp only []; omega), lanes_apply (L := 128) (n := 64) _ _ b r _ p1 (by show _ = _; simp only []; omega)]
  · rw [lanes_apply (L := 128) (n := 64) _ _ b r _ p2 (by show _ = _; simp only []; omega), lanes_apply (L := 128) (n := 64) _ _ b r _ p3 (by show _ = _; simp only []; omega)]

/-- The last halving, 32 lanes to 16, and the exchange of rows and lanes. -/
theorem stage4 (z : FVec F (Sh 32) .f32) (h0 : (Sh 32).Slices ![0, 0, 0] (Sh 16)) (h16 : (Sh 32).Slices ![0, 0, 16] (Sh 16))
    (b : Fin 32) (r : Fin 128) (l : Fin 16) (p q : Fin 32) (hp : p.val = l.val) (hq : q.val = 16 + (l.val + 1) % 16) :
    k1_pay1 (extractStridedSlice (Sh 16) ![0, 0, 0] z h0) (extractStridedSlice (Sh 16) ![0, 0, 16] z h16)
      (iota .tc S32x128x16 32 [2] iota_S32x128x16_d2_w32) 16#32 (Scalar.cmpi .eq 16#32 0#32) (ix3 b l r)
      = FloatOps.maximumf (z (ix3 b r p)) (z (ix3 b r q)) := by
  have hl := l.isLt
  have ht (y : FVec F S32x128x16 .f32) : transpose S32x16x128 [0, 2, 1] y transposes_S32x128x16_p0_2_1_S32x16x128 (ix3 b l r) = y (ix3 b r l) :=
    transpose_apply _ y _ _ _ (by intro a; fin_cases a <;> rfl)
  unfold k1_pay1
  refine (ht _).trans ?_
  refine (halve (L := 16) (A := 15) (s := 1) (A' := 15) (B' := 1) rfl rfl rfl rfl _ _ _ _ _ _ _ _ _ b r l ⟨(l.val + 1) % 16, by omega⟩
    ((mask_lane 16 l.val 15#32).trans (mask_eq ⟨l.val, by omega⟩).2.2.2) (by show _ = _; simp only []; omega)).trans ?_
  rw [lanes_apply (L := 32) (n := 16) _ _ b r _ p (by omega), lanes_apply (L := 32) (n := 16) _ _ b r _ q (by show _ = _; simp only []; omega)]

/-- The member of coset `l` in group `k`: lane 16 k + (k + l) mod 16. -/
def memb (k l : Fin 16) : Fin 256 := ⟨16 * k.val + (k.val + l.val) % 16, by omega⟩

/-- The maximum of sixteen values in the order of the block's halvings. -/
def mxTc (x : Fin 16 → F .f32) : F .f32 :=
  FloatOps.maximumf
    (FloatOps.maximumf (FloatOps.maximumf (FloatOps.maximumf (x 0) (x 8)) (FloatOps.maximumf (x 4) (x 12)))
      (FloatOps.maximumf (FloatOps.maximumf (x 2) (x 10)) (FloatOps.maximumf (x 6) (x 14))))
    (FloatOps.maximumf (FloatOps.maximumf (FloatOps.maximumf (x 1) (x 9)) (FloatOps.maximumf (x 5) (x 13)))
      (FloatOps.maximumf (FloatOps.maximumf (x 3) (x 11)) (FloatOps.maximumf (x 7) (x 15))))

/-- The block's result: at coset `l`, the maximum of its sixteen members, in the body's order. -/
theorem tcPay_apply (v : Vec F S32x128x256 .f32) (b : Fin 32) (r : Fin 128) (l : Fin 16) :
    KI.tcPay v (ix3 b l r) = mxTc fun k => v (ix3 b r (memb k l)) := by
  have hl := l.isLt
  refine (stage4 _ slices_S32x128x32_o0_0_0_S32x128x16 slices_S32x128x32_o0_0_16_S32x128x16 b r l ⟨l.val, by omega⟩ ⟨16 + (l.val + 1) % 16, by omega⟩ rfl rfl).trans ?_
  refine congrArg₂ FloatOps.maximumf
    ((stage23 (k1_pay2 v) slices_S32x128x128_o0_0_0_S32x128x64 slices_S32x128x128_o0_0_64_S32x128x64 b r _ ⟨l.val, by omega⟩ ⟨64 + (l.val + 4) % 16, by omega⟩ ⟨32 + (l.val + 2) % 16, by omega⟩ ⟨96 + (l.val + 6) % 16, by omega⟩
      rfl (by show _ = _; simp only []; omega) (by show _ = _; simp only []; omega) (by show _ = _; simp only []; omega)).trans ?_)
    ((stage23 (k1_pay2 v) slices_S32x128x128_o0_0_0_S32x128x64 slices_S32x128x128_o0_0_64_S32x128x64 b r _ ⟨16 + (l.val + 1) % 16, by omega⟩ ⟨80 + (l.val + 5) % 16, by omega⟩ ⟨48 + (l.val + 3) % 16, by omega⟩ ⟨112 + (l.val + 7) % 16, by omega⟩
      rfl (by show _ = _; simp only []; omega) (by show _ = _; simp only []; omega) (by show _ = _; simp only []; omega)).trans ?_)
  · refine congrArg₂ FloatOps.maximumf (congrArg₂ FloatOps.maximumf (stage1 v b r _ (memb 0 l) (memb 8 l) ?_ ?_) (stage1 v b r _ (memb 4 l) (memb 12 l) ?_ ?_))
      (congrArg₂ FloatOps.maximumf (stage1 v b r _ (memb 2 l) (memb 10 l) ?_ ?_) (stage1 v b r _ (memb 6 l) (memb 14 l) ?_ ?_)) <;>
      (simp only [memb, Fin.isValue, Fin.coe_ofNat_eq_mod]; omega)
  · refine congrArg₂ FloatOps.maximumf (congrArg₂ FloatOps.maximumf (stage1 v b r _ (memb 1 l) (memb 9 l) ?_ ?_) (stage1 v b r _ (memb 5 l) (memb 13 l) ?_ ?_))
      (congrArg₂ FloatOps.maximumf (stage1 v b r _ (memb 3 l) (memb 11 l) ?_ ?_) (stage1 v b r _ (memb 7 l) (memb 15 l) ?_ ?_)) <;>
      (simp only [memb, Fin.isValue, Fin.coe_ofNat_eq_mod]; omega)

end Cert.Proof.Val

end
-- ==== Proof.ValOut.lean ====
/-
  The TensorCore kernel's result array: its 28 blocks cover it, and each holds its slabs' coset maxima.
-/
module

public import proofs.«01_k».proof.Proof.ValTC

@[expose] public section

noncomputable section

namespace Cert.Proof.Val

open Cert.KernelIdeal Cert.KernelIdeal.Gen
open Idealize.ShloMosaic Idealize.ShloMosaic.ValueIdx Idealize.ShloMosaic.Pipeline
open Idealize.ShloMosaic.TcCoe

variable {F : FTy → Type} [FloatOps F]
variable (VV : (c : Dev nD) → (b : Ref sig .tc) → Buf (Elt F) ((c : Thread nD τ).loc b))

/-- The result of the slabs from 2240 on, as one array. -/
def tcG (X : S3136x128x256.Idx → Elt F .f32) : S896x16x128.Idx → Elt F .f32 :=
  fun y => mxTc fun k => X (ix3 (Fin.ofNat 3136 (2240 + (y 0).val)) (y 2) (memb k (y 1)))

/-- Where point `t`'s two blocks start. -/
theorem starts : ∀ t : Fin cfg1.N, ((cfg1.win 0).index t 0 * (cfg1.win 0).size 0 = 2240 + 32 * t.val ∧ (cfg1.win 0).index t 1 * (cfg1.win 0).size 1 = 0 ∧ (cfg1.win 0).index t 2 * (cfg1.win 0).size 2 = 0)
    ∧ ((cfg1.win 1).index t 0 * (cfg1.win 1).size 0 = 32 * t.val ∧ (cfg1.win 1).index t 1 * (cfg1.win 1).size 1 = 0 ∧ (cfg1.win 1).index t 2 * (cfg1.win 1).size 2 = 0) := by
  decide

/-- What point `t` writes back is block `t` of that array. -/
theorem flushed_eq (c : Dev nD) (t : Fin cfg1.N) :
    (KI.dat VV c).flushed 1 t = ((cfg1.win 1).blk t).view.read (Elt F) (tcG (VV c main_v1)) := by
  show (cfg1.win 1).cut (grid1.coords t) (KI.tcPay (KI.blkAt VV c t)) = _
  have ht : t.val < 28 := lt_of_lt_of_eq t.isLt N_1
  obtain ⟨⟨a0, a1, a2⟩, b0, b1, b2⟩ := starts t
  funext j
  obtain ⟨b, l, r, rfl⟩ : ∃ (b : Fin 32) (l : Fin 16) (r : Fin 128), j = ix3 b l r := ⟨j 0, j 1, j 2, by funext a; fin_cases a <;> rfl⟩
  refine (tcPay_apply (KI.blkAt VV c t) b r l).trans ?_
  show _ = tcG (VV c main_v1) (((cfg1.win 1).blk t).view.emb (ix3 b l r))
  unfold tcG
  refine congrArg (mxTc (F := F)) (funext fun k => ?_)
  refine congrArg (VV c main_v1 : S3136x128x256.Idx → Elt F .f32) ?_
  have hb := b.isLt
  funext a
  fin_cases a
  · refine Fin.ext ?_
    show (cfg1.win 0).index t 0 * (cfg1.win 0).size 0 + 1 * b.val = (2240 + ((cfg1.win 1).index t 0 * (cfg1.win 1).size 0 + 1 * b.val)) % 3136
    omega
  · refine Fin.ext ?_
    show (cfg1.win 0).index t 1 * (cfg1.win 0).size 1 + 1 * r.val = (cfg1.win 1).index t 2 * (cfg1.win 1).size 2 + 1 * r.val
    omega
  · refine Fin.ext ?_
    show (cfg1.win 0).index t 2 * (cfg1.win 0).size 2 + 1 * (memb k l).val = (memb k _).val
    have hl : (⟨(cfg1.win 1).index t 1 * (cfg1.win 1).size 1 + 1 * l.val, by have := l.isLt; omega⟩ : Fin 16) = l := Fin.ext (by show _ + 1 * l.val = l.val; omega)
    rw [a2, Nat.zero_add, Nat.one_mul]
    exact congrArg (fun l => (memb k l).val) hl.symm

/-- An index of the result array is in point `t`'s block when its slab is one of the point's 32. -/
theorem mem_blk (t : Fin cfg1.N) (i : S896x16x128.Idx) (h : 32 * t.val ≤ (i 0).val ∧ (i 0).val < 32 * t.val + 32) :
    i ∈ ((cfg1.win 1).blk t).view.set := by
  obtain ⟨-, b0, b1, b2⟩ := starts t
  have h1 : (i 1).val < 16 := (i 1).isLt
  have h2 : (i 2).val < 128 := (i 2).isLt
  show i ∈ ((View.whole main_v3).slice (win1_1.rect t)).set
  rw [View.set_slice_whole, Rect.mem_set_unit]
  intro a
  match a with
  | ⟨0, _⟩ =>
    show (cfg1.win 1).index t 0 * (cfg1.win 1).size 0 ≤ (i 0).val ∧ (i 0).val < (cfg1.win 1).index t 0 * (cfg1.win 1).size 0 + 32
    omega
  | ⟨1, _⟩ =>
    show (cfg1.win 1).index t 1 * (cfg1.win 1).size 1 ≤ (i 1).val ∧ (i 1).val < (cfg1.win 1).index t 1 * (cfg1.win 1).size 1 + 16
    omega
  | ⟨2, _⟩ =>
    show (cfg1.win 1).index t 2 * (cfg1.win 1).size 2 ≤ (i 2).val ∧ (i 2).val < (cfg1.win 1).index t 2 * (cfg1.win 1).size 2 + 128
    omega

/-- The blocks cover the result array. -/
theorem cover (i : S896x16x128.Idx) : ∃ t : Fin cfg1.N, (cfg1.win 1).flush t = true ∧ i ∈ ((cfg1.win 1).blk t).view.set := by
  have h0 : (i 0).val < 896 := (i 0).isLt
  have hN : cfg1.N = 28 := N_1
  exact ⟨⟨(i 0).val / 32, by omega⟩, flush1_1 _, mem_blk _ i ⟨by show 32 * ((i 0).val / 32) ≤ _; omega, by show _ < 32 * ((i 0).val / 32) + 32; omega⟩⟩

/-- So the region leaves the coset maxima of its slabs. -/
theorem tcOut_eq (c : Dev nD) : KI.tcOut VV c = tcG (VV c main_v1) :=
  (KI.dat VV c).arrAt_eq_of_cover 1 (tcG (VV c main_v1)) (fun t _ => flushed_eq VV c t) cover

end Cert.Proof.Val

end
-- ==== Proof.ValRef.lean ====
/-
  The reference's result under `cosets`: the gather read at an index, the reduction as a fold over the sixteen members, and
  the fold over the extended reals as the maximum in either kernel's order.
-/
module

public import proofs.«01_k».proof.Proof.ValOut
public import proofs.«01_k».proof.Proof.Frames
public import Idealize.ShloMosaic.Lib.Pointwise.Reduce

@[expose] public section

noncomputable section

namespace Cert.Proof.Val

open Cert.ReferenceIdeal Cert.ReferenceIdeal.Gen
open Idealize.ShloMosaic hiding ix0 ix1 ix2 ix3 ix4 ix5
open Idealize.ShloMosaic.ValueIdx

abbrev gd := Cert.ReferenceIdeal.gather_S16x128x196x256_S16x16x1_S16x128x196x16x16_012_3_n_n_3_2_161281961

/-- The gather read at an index: the operand at the start index, read signed and clamped to the axis. -/
theorem gather_apply {α : Type} (x : S16x128x196x256.Idx → α) (idx : IVec S16x16x1 32) (b : Fin 16) (r : Fin 128) (h : Fin 196) (k j : Fin 16) (n : Fin 256)
    (hn : n.val = min (idx (ix3 k j 0)).toInt.toNat 255) :
    Host.gather gd x idx (ix5 b r h k j) = x (ix4 b r h n) := by
  unfold Host.gather
  refine congrArg x (funext fun a => Fin.ext ?_)
  show gd.start (ix5 b r h k j) idx a + gd.batchCoord (ix5 b r h k j) a + gd.offCoord (ix5 b r h k j) a = _
  rw [GatherDims.batchCoord_eq_zero _ _ _ List.not_mem_nil]
  fin_cases a
  · show 0 + 0 + b.val = b.val; omega
  · show 0 + 0 + r.val = r.val; omega
  · show 0 + 0 + h.val = h.val; omega
  · show gd.start (ix5 b r h k j) idx 3 + 0 + gd.offCoord (ix5 b r h k j) 3 = n.val
    rw [GatherDims.offCoord_eq_zero _ _ _ (fun h => ((GatherDims.mem_sKept _ _).mp h).1 (List.mem_singleton.mpr rfl))]
    unfold GatherDims.start
    rw [dif_pos (show (3 : Fin 4) ∈ gd.startIndexMap from List.mem_singleton.mpr rfl)]
    have hsi : gd.siIdx (ix5 b r h k j) ⟨List.idxOf (3 : Fin 4) gd.startIndexMap, List.idxOf_lt_length_iff.2 (List.mem_singleton.mpr rfl)⟩ = ix3 k j 0 := by
      funext c; refine Fin.ext ?_
      match c with
      | ⟨0, _⟩ => rfl
      | ⟨1, _⟩ => rfl
      | ⟨2, _⟩ => rfl
    rw [hsi]
    exact hn.symm

/-- The maximum of sixteen values in the order of the SparseCore kernel's tree. -/
def mxSc {F : FTy → Type} [FloatOps F] (x : Fin 16 → F .f32) : F .f32 :=
  FloatOps.maximumf
    (FloatOps.maximumf (FloatOps.maximumf (FloatOps.maximumf (x 0) (x 1)) (FloatOps.maximumf (x 2) (x 3)))
      (FloatOps.maximumf (FloatOps.maximumf (x 4) (x 5)) (FloatOps.maximumf (x 6) (x 7))))
    (FloatOps.maximumf (FloatOps.maximumf (FloatOps.maximumf (x 8) (x 9)) (FloatOps.maximumf (x 10) (x 11)))
      (FloatOps.maximumf (FloatOps.maximumf (x 12) (x 13)) (FloatOps.maximumf (x 14) (x 15))))

/-- Over the extended reals the SparseCore kernel's order gives the supremum, -/
theorem mxSc_eq (x : Fin 16 → EReal) : mxSc (F := Ideal) x = Finset.univ.sup x := by
  show max (max (max (max (x 0) (x 1)) (max (x 2) (x 3))) (max (max (x 4) (x 5)) (max (x 6) (x 7))))
    (max (max (max (x 8) (x 9)) (max (x 10) (x 11))) (max (max (x 12) (x 13)) (max (x 14) (x 15)))) = _
  refine le_antisymm ?_ (Finset.sup_le fun k _ => ?_)
  · simp only [max_le_iff]
    refine ⟨⟨⟨⟨?_, ?_⟩, ?_, ?_⟩, ⟨?_, ?_⟩, ?_, ?_⟩, ⟨⟨?_, ?_⟩, ?_, ?_⟩, ⟨?_, ?_⟩, ?_, ?_⟩ <;> exact Finset.le_sup (f := x) (Finset.mem_univ _)
  · fin_cases k <;> simp [le_max_iff]

/-- and so does the TensorCore kernel's. -/
theorem mxTc_eq (x : Fin 16 → EReal) : mxTc (F := Ideal) x = Finset.univ.sup x := by
  show max (max (max (max (x 0) (x 8)) (max (x 4) (x 12))) (max (max (x 2) (x 10)) (max (x 6) (x 14))))
    (max (max (max (x 1) (x 9)) (max (x 5) (x 13))) (max (max (x 3) (x 11)) (max (x 7) (x 15)))) = _
  refine le_antisymm ?_ (Finset.sup_le fun k _ => ?_)
  · simp only [max_le_iff]
    refine ⟨⟨⟨⟨?_, ?_⟩, ?_, ?_⟩, ⟨?_, ?_⟩, ?_, ?_⟩, ⟨⟨?_, ?_⟩, ?_, ?_⟩, ⟨?_, ?_⟩, ?_, ?_⟩ <;> exact Finset.le_sup (f := x) (Finset.mem_univ _)
  · fin_cases k <;> simp [le_max_iff]

/-- The reduction's initial value is minus infinity. -/
theorem ofBits_bot : Ideal.ofBits .f32 0xFF800000#32 = (⊥ : EReal) := by
  simp [Ideal.ofBits, Ideal.ieee]

/-- The start indices read at an index: the index matrix at its first two coordinates. -/
theorem idx_apply (y : IVec S16x16 32) (k j : Fin 16) : broadcastInDim S16x16x1 ![0, 1] bcast_S16x16_S16x16x1_0_1 y (ix3 k j 0) = y (ix2 k j) :=
  congrArg y (funext fun a => by fin_cases a <;> rfl)

/-- The reference's result: at each coset the supremum of its members. -/
theorem ref_apply (x : FVec Ideal S16x128x196x256 .f32) (I : IVec S16x16 32) (hI : ∀ k j : Fin 16, (I (ix2 k j)).toNat = (memb k j).val)
    (b : Fin 16) (r : Fin 128) (h : Fin 196) (j : Fin 16) :
    Host.reduce (FloatOps.maximumf (F := Ideal) (φ := .f32))
      (Host.gather gd x (broadcastInDim S16x16x1 ![0, 1] bcast_S16x16_S16x16x1_0_1
        (select (cmpi .slt I (broadcastInDim S16x16 ![] bcast_S_S16x16 (constantI S_ 32 0#32)))
          (addi I (broadcastInDim S16x16 ![] bcast_S_S16x16 (constantI S_ 32 256#32))) I)))
      (constant S_ .f32 0xFF800000#32) reducesTo_S16x128x196x16x16_S16x128x196x16_d3 h_S_ (ix4 b r h j)
      = Finset.univ.sup fun k : Fin 16 => x (ix4 b r h (memb k j)) := by
  rw [Host.reduce_eq_fold, Shape.ReducesTo.fold_fiber_r5_a3]
  have hw (k : Fin 16) : I (ix2 k j) = BitVec.ofNat 32 (memb k j).val := BitVec.eq_of_toNat_eq (by
    rw [hI, BitVec.toNat_ofNat]; have := (memb k j).isLt; omega)
  have hs : ∀ n : Fin 256, Scalar.select (IntOp.cmpi .slt (BitVec.ofNat 32 n.val) 0#32) (IntOp.addi (BitVec.ofNat 32 n.val) 256#32) (BitVec.ofNat 32 n.val) = BitVec.ofNat 32 n.val
      ∧ n.val = min (BitVec.ofNat 32 n.val).toInt.toNat 255 := by decide
  have hx (k : Fin 16) := gather_apply x (broadcastInDim S16x16x1 ![0, 1] bcast_S16x16_S16x16x1_0_1
        (select (cmpi .slt I (broadcastInDim S16x16 ![] bcast_S_S16x16 (constantI S_ 32 0#32)))
          (addi I (broadcastInDim S16x16 ![] bcast_S_S16x16 (constantI S_ 32 256#32))) I)) b r h k j (memb k j) (by
      have e : (broadcastInDim S16x16x1 ![0, 1] bcast_S16x16_S16x16x1_0_1
        (select (cmpi .slt I (broadcastInDim S16x16 ![] bcast_S_S16x16 (constantI S_ 32 0#32)))
          (addi I (broadcastInDim S16x16 ![] bcast_S_S16x16 (constantI S_ 32 256#32))) I)) (ix3 k j 0) = BitVec.ofNat 32 (memb k j).val := by
        refine Eq.trans ?_ (hs (memb k j)).1
        rw [← hw k]
        exact idx_apply _ k j
      rw [e]
      exact (hs (memb k j)).2)
  have hb : (constant S_ .f32 0xFF800000#32 : FVec Ideal S_ .f32) (Shape.Idx.first h_S_) = (⊥ : EReal) := ofBits_bot
  rw [hb]
  exact congrArg (Finset.univ.fold max (⊥ : EReal)) (funext hx)

end Cert.Proof.Val

end
-- ==== Proof.Value.lean ====
/-
  The idealized kernel's result: the arrays between @main's operations read at an index, the two kernels' halves put
  together, and the equality with the reference's result under `cosets`.
-/
module

public import proofs.«01_k».proof.Proof.ValRef

@[expose] public section

noncomputable section

namespace Cert.Proof.Val

open Cert.KernelIdeal Cert.KernelIdeal.Gen
open Cert.Proof.KI
open Idealize.ShloMosaic hiding ix0 ix1 ix2 ix3 ix4 ix5
open Idealize.ShloMosaic.ValueIdx
open Idealize.ShloMosaic.TcCoe
open Idealize.SL.Sem

section Generic

variable {F : FTy → Type} [FloatOps F]
variable (m : (ℓ : Loc nD τ sig) → Buf (Elt F) ℓ) (d : Dev nD)

/-- The first argument, on device `d`. -/
abbrev argOf : S16x128x196x256.Idx → Elt F .f32 := m (d, a0')

/-- The slab that batch `b` and row `h` make. -/
def slab (b : Fin 16) (h : Fin 196) : Fin 3136 := ⟨b.val * 196 + h.val, by have := b.isLt; have := h.isLt; omega⟩

/-- The first transpose read at an index. -/
theorem tr_in (x : S16x128x196x256.Idx → Elt F .f32) (b : Fin 16) (h : Fin 196) (r : Fin 128) (l : Fin 256) :
    transpose S16x196x128x256 [0, 2, 1, 3] x transposes_S16x128x196x256_S16x196x128x256_0_2_1_3 (ix4 b h r l) = x (ix4 b r h l) :=
  transpose_apply _ x _ _ _ fun a => by fin_cases a <;> rfl

/-- The first reshape read at an index. -/
theorem rs_in (x : S16x196x128x256.Idx → Elt F .f32) (b : Fin 16) (h : Fin 196) (r : Fin 128) (l : Fin 256) :
    shapeCast S3136x128x256 x shapeCasts_S16x196x128x256_S3136x128x256 (ix3 (slab b h) r l) = x (ix4 b h r l) :=
  shapeCast_apply x _ _ _ (by
    rw [Shape.rowMajor_val_three, Shape.rowMajor_val_four]
    rfl)

/-- The last reshape read at an index. -/
theorem rs_out (x : S3136x16x128.Idx → Elt F .f32) (b : Fin 16) (h : Fin 196) (j : Fin 16) (r : Fin 128) :
    shapeCast S16x196x16x128 x shapeCasts_S3136x16x128_S16x196x16x128 (ix4 b h j r) = x (ix3 (slab b h) j r) :=
  shapeCast_apply x _ _ _ (by
    rw [Shape.rowMajor_val_three, Shape.rowMajor_val_four]
    rfl)

/-- The last transpose read at an index. -/
theorem tr_out (x : S16x196x16x128.Idx → Elt F .f32) (b : Fin 16) (h : Fin 196) (j : Fin 16) (r : Fin 128) :
    transpose S16x128x196x16 [0, 3, 1, 2] x transposes_S16x196x16x128_S16x128x196x16_0_3_1_2 (ix4 b r h j) = x (ix4 b h j r) :=
  transpose_apply _ x _ _ _ fun a => by fin_cases a <;> rfl

/-- The two halves joined, read in the SparseCore's part, -/
theorem cat_left (p : S2240x16x128.Idx → Elt F .f32) (q : S896x16x128.Idx → Elt F .f32) (s : Fin 3136) (j : Fin 16) (r : Fin 128) (t : Fin 2240) (ht : t.val = s.val) :
    concatenate S3136x16x128 0 [⟨S2240x16x128, p⟩, ⟨S896x16x128, q⟩] concatenates_S2240x16x128_S896x16x128_S3136x16x128_d0 (ix3 s j r) = p (ix3 t j r) :=
  concatenate_pair_apply_left (t := S3136x16x128) (s₁ := S2240x16x128) (s₂ := S896x16x128) 0 p q _ (ix3 s j r) rfl (ix3 t j r) fun a => by
    fin_cases a
    · exact ht
    · rfl
    · rfl

/-- and in the TensorCore's. -/
theorem cat_right (p : S2240x16x128.Idx → Elt F .f32) (q : S896x16x128.Idx → Elt F .f32) (s : Fin 3136) (j : Fin 16) (r : Fin 128) (t : Fin 896) (ht : t.val + 2240 = s.val) :
    concatenate S3136x16x128 0 [⟨S2240x16x128, p⟩, ⟨S896x16x128, q⟩] concatenates_S2240x16x128_S896x16x128_S3136x16x128_d0 (ix3 s j r) = q (ix3 t j r) :=
  concatenate_pair_apply_right (t := S3136x16x128) (s₁ := S2240x16x128) (s₂ := S896x16x128) 0 p q _ (ix3 s j r) rfl rfl (ix3 t j r) (fun a ha => by
    fin_cases a
    · exact absurd rfl ha
    · rfl
    · rfl) ht

/-- The slabs the two kernels read, in terms of the argument. -/
theorem xOf_apply (b : Fin 16) (h : Fin 196) (r : Fin 128) (l : Fin 256) : xOf m d (ix3 (slab b h) r l) = argOf m d (ix4 b r h l) := by
  have e1 : V1 m d w0' = transpose S16x196x128x256 [0, 2, 1, 3] (argOf m d) transposes_S16x128x196x256_S16x196x128x256_0_2_1_3 := StableHlo.unary_result' _ _ _ _
  have e2 : xOf m d = shapeCast S3136x128x256 (V1 m d w0') shapeCasts_S16x196x128x256_S3136x128x256 := StableHlo.reshape_result' _ _ _ _ _
  rw [e2, rs_in, e1, tr_in]

/-- What the SparseCore call leaves, as the concatenation finds it, -/
theorem V4_w2 : V4 m d w2' = gout (xOf m d) (iOf m d) :=
  (Function.update_of_ne (show w2' ≠ w3' by decide) _ _).trans (Function.update_self _ _ _)

/-- and what the TensorCore's region leaves. -/
theorem V4_w3 : V4 m d w3' = tcG (xOf m d) := by
  have e : V3 m d w1' = xOf m d := Function.update_of_ne (show w1' ≠ w2' by decide) _ _
  have e1 : V4 m d w3' = tcOut (VVr m) d := Function.update_self _ _ _
  have e2 : tcOut (VVr m) d = tcG (VVr m d main_v1) := tcOut_eq (VVr m) d
  rw [e1, e2]
  exact congrArg tcG e

/-- The program's result read at an index: the joined halves at the slab. -/
theorem V7_apply (b : Fin 16) (r : Fin 128) (h : Fin 196) (j : Fin 16) :
    (V7 m d w6' : S16x128x196x16.Idx → Elt F .f32) (ix4 b r h j)
      = concatenate S3136x16x128 0 [⟨S2240x16x128, gout (xOf m d) (iOf m d)⟩, ⟨S896x16x128, tcG (xOf m d)⟩]
          concatenates_S2240x16x128_S896x16x128_S3136x16x128_d0 (ix3 (slab b h) j r) := by
  have e7 : V7 m d w6' = transpose S16x128x196x16 [0, 3, 1, 2] (V6 m d w5') transposes_S16x196x16x128_S16x128x196x16_0_3_1_2 := StableHlo.unary_result' _ _ _ _
  have e6 : V6 m d w5' = shapeCast S16x196x16x128 (V5 m d w4') shapeCasts_S3136x16x128_S16x196x16x128 := StableHlo.reshape_result' _ _ _ _ _
  have e5 : V5 m d w4' = concatenate S3136x16x128 0 [⟨S2240x16x128, V4 m d w2'⟩, ⟨S896x16x128, V4 m d w3'⟩] concatenates_S2240x16x128_S896x16x128_S3136x16x128_d0 :=
    StableHlo.binary_result' _ _ _ _ _
  rw [e7, tr_out, e6, rs_out, e5, V4_w2, V4_w3]

/-- The SparseCore's result at an index, when the index words name the cosets' members. -/
theorem gout_apply (X : S3136x128x256.Idx → Elt F .f32) (I : S16x16.Idx → BitVec 32) (hI : ∀ k j : Fin 16, (I (ix2 k j)).toNat = (memb k j).val)
    (s : Fin 3136) (t : Fin 2240) (ht : t.val = s.val) (j : Fin 16) (r : Fin 128) :
    gout X I (ix3 t j r) = mxSc fun k => X (ix3 s r (memb k j)) := by
  have hl (k : Fin 16) : lv X I t.val r.val k (Shape.ofLane j) = X (ix3 s r (memb k j)) := by
    refine congrArg X ?_
    have e1 : Fin.ofNat 3136 t.val = s := Fin.ext (by rw [Fin.val_ofNat, ht]; exact Nat.mod_eq_of_lt s.isLt)
    have e2 : Fin.ofNat 128 r.val = r := Fin.ext (Nat.mod_eq_of_lt r.isLt)
    have e3 : Fin.ofNat 256 (I (ix2 k j)).toNat = memb k j := Fin.ext (by rw [Fin.val_ofNat, hI]; exact Nat.mod_eq_of_lt (memb k j).isLt)
    show ix3 (Fin.ofNat 3136 t.val) (Fin.ofNat 128 r.val) (Fin.ofNat 256 (I (ix2 k j)).toNat) = _
    rw [e1, e2, e3]
  show mxSc (fun k => lv X I t.val r.val k (Shape.ofLane j)) = _
  exact congrArg mxSc (funext hl)

/-- The TensorCore's result at an index. -/
theorem tcG_apply (X : S3136x128x256.Idx → Elt F .f32) (s : Fin 3136) (t : Fin 896) (ht : t.val + 2240 = s.val) (j : Fin 16) (r : Fin 128) :
    tcG X (ix3 t j r) = mxTc fun k => X (ix3 s r (memb k j)) := by
  have e1 : Fin.ofNat 3136 (2240 + t.val) = s := Fin.ext (by rw [Fin.val_ofNat, Nat.add_comm, ht]; exact Nat.mod_eq_of_lt s.isLt)
  show mxTc (fun k => X (ix3 (Fin.ofNat 3136 (2240 + t.val)) r (memb k j))) = _
  rw [e1]

end Generic

/-- The idealized kernel's result: at each coset the supremum of its members. -/
theorem kernel_apply (m : (ℓ : Loc nD τ sig) → Buf (Elt Ideal) ℓ) (d : Dev nD) (hI : ∀ k j : Fin 16, (iOf m d (ix2 k j)).toNat = (memb k j).val)
    (b : Fin 16) (r : Fin 128) (h : Fin 196) (j : Fin 16) :
    (V7 m d w6' : S16x128x196x16.Idx → Elt Ideal .f32) (ix4 b r h j) = Finset.univ.sup fun k : Fin 16 => (argOf m d (ix4 b r h (memb k j)) : EReal) := by
  have hx : (fun k : Fin 16 => xOf m d (ix3 (slab b h) r (memb k j))) = fun k => argOf m d (ix4 b r h (memb k j)) :=
    funext fun k => xOf_apply m d b h r (memb k j)
  rw [V7_apply]
  by_cases hs : (slab b h).val < 2240
  · rw [cat_left _ _ (slab b h) j r ⟨(slab b h).val, hs⟩ rfl, gout_apply _ _ hI (slab b h) ⟨(slab b h).val, hs⟩ rfl, hx]
    exact mxSc_eq _
  · have hlt := (slab b h).isLt
    have ht : (slab b h).val - 2240 < 896 := by omega
    have he : (slab b h).val - 2240 + 2240 = (slab b h).val := by omega
    rw [cat_right _ _ (slab b h) j r ⟨(slab b h).val - 2240, ht⟩ he, tcG_apply _ (slab b h) ⟨(slab b h).val - 2240, ht⟩ he, hx]
    exact mxTc_eq _

/-- Under `cosets` the index words name the cosets' members. -/
theorem memb_of_pre (m : (ℓ : Loc nD τ sig) → Buf (Elt Ideal) ℓ) (hpre : Cert.Pre_KernelIdeal_cosets m) (d : Dev nD) (k j : Fin 16) :
    (iOf m d (ix2 k j)).toNat = (memb k j).val := Frames.cosets_of_pre _ _ (hpre d) k j

/-- Under `cosets` the idealized kernel and the reference leave the same result over the extended reals. -/
theorem algebraic : Cert.algebraic_KernelIdeal_ReferenceIdeal_pre_cosets := by
  intro m g m' g' hpre hagree
  refine ⟨fun c => V7 m c w6', ?_, ?_⟩
  · exact (θ_run Cert.KernelIdeal.defs _ _).mono (fun _ h c => ⟨(h.1 c).2.2, (h.1 c).1, (h.1 c).2.1⟩)
      (KI.run_main (F := Ideal) m g (Frames.ok_of_cosets m hpre))
  · refine (θ_run Cert.ReferenceIdeal.defs _ _).mono (fun _ h c => ⟨(h c).1.trans ?_, (h c).2⟩) (Cert.ReferenceIdeal.Value.run (F := Ideal) m' g')
    rw [(hagree c).1, (hagree c).2]
    funext i
    obtain ⟨b, r, hh, j, rfl⟩ : ∃ (b : Fin 16) (r : Fin 128) (hh : Fin 196) (j : Fin 16), i = ix4 b r hh j :=
      ⟨i 0, i 1, i 2, i 3, by funext a; fin_cases a <;> rfl⟩
    exact (ref_apply _ _ (memb_of_pre m hpre c) b r hh j).trans (kernel_apply m c (memb_of_pre m hpre c) b r hh j).symm

end Cert.Proof.Val

end
-- ==== Proof.lean ====
/-
  The certificate: the frames of the kernel, of its idealization and of the reference, from Proof/Frames.lean, and the
  equality of the two results over the extended reals, from Proof/Value.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_cosets
public import proofs.«01_k».proof.Proof.Frames
public import proofs.«01_k».proof.Proof.Value

@[expose] public section

noncomputable section

namespace Cert.Proof

open Idealize.ShloMosaic Idealize.SL.Sem

/-- Every claim, from its own theorem; no rule was used, so `preserves` has nothing to show. -/
theorem claim : Cert.Claim := ⟨Cert.Kernel.Gen.facts, Cert.KernelIdeal.Gen.facts, Cert.ReferenceIdeal.Gen.facts, Cert.Pre_in_range.Gen.facts,
  Cert.Pre_cosets.Gen.facts, Frames.frame_kernel, Frames.frame_ideal, Frames.frame_ideal_cosets, Frames.frame_ref, Frames.frame_ref_cosets, trivial,
  Val.algebraic⟩

end Cert.Proof

end
